-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_nan [hPre_no_negative_nan : Cert.Pre_no_negative_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_nan [hPre_no_negative_nan : Cert.Pre_no_negative_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_negative_nan [hKernelIdeal : Cert.KernelIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_negative_nan [hReferenceIdeal : Cert.ReferenceIdeal.Facts] [hPre_no_negative_nan : Cert.Pre_no_negative_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_no_negative_nan [hKernelIdeal : Cert.KernelIdeal.Facts] [hReferenceIdeal : Cert.ReferenceIdeal.Facts] [hPre_no_negative_nan : Cert.Pre_no_negative_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_negative_nan : Cert.Pre_no_negative_nan.Facts),
    quiescent_Kernel (hKernel := hKernel)
    ∧ quiescent_KernelIdeal (hKernelIdeal := hKernelIdeal)
    ∧ quiescent_KernelIdeal_pre_no_negative_nan (hKernelIdeal := hKernelIdeal) (hPre_no_negative_nan := hPre_no_negative_nan)
    ∧ quiescent_ReferenceIdeal (hReferenceIdeal := hReferenceIdeal)
    ∧ quiescent_ReferenceIdeal_pre_no_negative_nan (hReferenceIdeal := hReferenceIdeal) (hPre_no_negative_nan := hPre_no_negative_nan)
    ∧ preserves_Kernel_KernelIdeal
    ∧ algebraic_KernelIdeal_ReferenceIdeal_pre_no_negative_nan (hKernelIdeal := hKernelIdeal) (hReferenceIdeal := hReferenceIdeal) (hPre_no_negative_nan := hPre_no_negative_nan)
-- ==== Pre_no_negative_nan.lean ====
abbrev S3x512x4096 : Shape := ⟨3, ![3, 512, 4096]⟩
abbrev S3x512x16 : Shape := ⟨3, ![3, 512, 16]⟩
abbrev S14336x16x32 : Shape := ⟨3, ![14336, 16, 32]⟩
abbrev S14336x16x64 : Shape := ⟨3, ![14336, 16, 64]⟩
abbrev S14336x16x12 : Shape := ⟨3, ![14336, 16, 12]⟩
abbrev S14336x16 : Shape := ⟨2, ![14336, 16]⟩
abbrev S_ : Shape := ⟨0, ![]⟩

class Facts : Prop where
  natLt_16_32 : 16 < 32
  bcast_S_S14336x16 : S_.BroadcastsInDim S14336x16 (![] : Fin 0 → Fin S14336x16.rank)

variable [Facts]

def fn {F : FTy → Type} [FloatOps F] (main_arg0 : IVec S3x512x4096 8) (main_arg1 : FVec F S3x512x16 .f32) (main_arg2 : IVec S14336x16x32 8) (main_arg3 : IVec S14336x16x64 8) (main_arg4 : IVec S14336x16x12 8) (main_arg5 : IVec S14336x16 16) : IVec S14336x16 1 :=
  let main_v0 : IVec S14336x16 32 := (extui 32 · natLt_16_32) main_arg5
  let main_c : IVec S_ 32 := constantI S_ 32 64512#32
  let main_v1 : IVec S14336x16 32 := broadcastInDim S14336x16 ![] bcast_S_S14336x16 main_c
  let main_v2 : IVec S14336x16 1 := cmpi .sle main_v0 main_v1
  main_v2
-- ==== Kernel.lean ====
abbrev S3x512x4096 : Shape := ⟨3, ![3, 512, 4096]⟩
abbrev S3x512x16 : Shape := ⟨3, ![3, 512, 16]⟩
abbrev S14336x16x32 : Shape := ⟨3, ![14336, 16, 32]⟩
abbrev S14336x16x64 : Shape := ⟨3, ![14336, 16, 64]⟩
abbrev S14336x16x12 : Shape := ⟨3, ![14336, 16, 12]⟩
abbrev S14336x16 : Shape := ⟨2, ![14336, 16]⟩
abbrev S1536x4096 : Shape := ⟨2, ![1536, 4096]⟩
abbrev S3x16x512 : Shape := ⟨3, ![3, 16, 512]⟩
abbrev S16x32x14336 : Shape := ⟨3, ![16, 32, 14336]⟩
abbrev S16x64x14336 : Shape := ⟨3, ![16, 64, 14336]⟩
abbrev S12x16x14336 : Shape := ⟨3, ![12, 16, 14336]⟩
abbrev S16x14336 : Shape := ⟨2, ![16, 14336]⟩
abbrev S1536x14336 : Shape := ⟨2, ![1536, 14336]⟩
abbrev S16x32x512 : Shape := ⟨3, ![16, 32, 512]⟩
abbrev S16x64x512 : Shape := ⟨3, ![16, 64, 512]⟩
abbrev S12x16x512 : Shape := ⟨3, ![12, 16, 512]⟩
abbrev S16x512 : Shape := ⟨2, ![16, 512]⟩
abbrev S1536x512 : Shape := ⟨2, ![1536, 512]⟩
abbrev S4096x512 : Shape := ⟨2, ![4096, 512]⟩
abbrev S16x16x512 : Shape := ⟨3, ![16, 16, 512]⟩
abbrev S1x16x512 : Shape := ⟨3, ![1, 16, 512]⟩
abbrev S512x16 : Shape := ⟨2, ![512, 16]⟩
abbrev S512x256 : Shape := ⟨2, ![512, 256]⟩
abbrev S512x1 : Shape := ⟨2, ![512, 1]⟩
abbrev S16x128 : Shape := ⟨2, ![16, 128]⟩
abbrev S1x16x128 : Shape := ⟨3, ![1, 16, 128]⟩
abbrev S1x32x128 : Shape := ⟨3, ![1, 32, 128]⟩
abbrev S32x128 : Shape := ⟨2, ![32, 128]⟩
abbrev S8x128 : Shape := ⟨2, ![8, 128]⟩
abbrev S1x1x128 : Shape := ⟨3, ![1, 1, 128]⟩
abbrev S1x128 : Shape := ⟨2, ![1, 128]⟩
abbrev S512x4096 : Shape := ⟨2, ![512, 4096]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S3x512x4096, .i8⟩
  | .hbm, ⟨1, _⟩ => ⟨S3x512x16, .f32⟩
  | .hbm, ⟨2, _⟩ => ⟨S14336x16x32, .i8⟩
  | .hbm, ⟨3, _⟩ => ⟨S14336x16x64, .i8⟩
  | .hbm, ⟨4, _⟩ => ⟨S14336x16x12, .i8⟩
  | .hbm, ⟨5, _⟩ => ⟨S14336x16, .i16⟩
  | .hbm, ⟨6, _⟩ => ⟨S1536x4096, .i8⟩
  | .hbm, ⟨7, _⟩ => ⟨S3x16x512, .f32⟩
  | .hbm, ⟨8, _⟩ => ⟨S16x32x14336, .i8⟩
  | .hbm, ⟨9, _⟩ => ⟨S16x64x14336, .i8⟩
  | .hbm, ⟨10, _⟩ => ⟨S12x16x14336, .i8⟩
  | .hbm, ⟨11, _⟩ => ⟨S16x14336, .i16⟩
  | .hbm, ⟨12, _⟩ => ⟨S1536x14336, .bf16⟩
  | .local _ .vmem, ⟨0, _⟩ => ⟨S1536x4096, .i8⟩
  | .local _ .vmem, ⟨1, _⟩ => ⟨S3x16x512, .f32⟩
  | .local _ .vmem, ⟨2, _⟩ => ⟨S16x32x512, .i8⟩
  | .local _ .vmem, ⟨3, _⟩ => ⟨S16x32x512, .i8⟩
  | .local _ .vmem, ⟨4, _⟩ => ⟨S16x64x512, .i8⟩
  | .local _ .vmem, ⟨5, _⟩ => ⟨S16x64x512, .i8⟩
  | .local _ .vmem, ⟨6, _⟩ => ⟨S12x16x512, .i8⟩
  | .local _ .vmem, ⟨7, _⟩ => ⟨S12x16x512, .i8⟩
  | .local _ .vmem, ⟨8, _⟩ => ⟨S16x512, .i16⟩
  | .local _ .vmem, ⟨9, _⟩ => ⟨S16x512, .i16⟩
  | .local _ .vmem, ⟨10, _⟩ => ⟨S1536x512, .bf16⟩
  | .local _ .vmem, ⟨11, _⟩ => ⟨S1536x512, .bf16⟩
  | .local _ .vmem, ⟨12, _⟩ => ⟨S1536x4096, .bf16⟩
  | .local _ .vmem, ⟨13, _⟩ => ⟨S4096x512, .bf16⟩
  | .local _ .vmem, ⟨14, _⟩ => ⟨S16x16x512, .f32⟩
  | _, _ => ⟨S3x512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x16x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x512x4096 : Shape := ⟨3, ![3, 512, 4096]⟩
abbrev S3x512x16 : Shape := ⟨3, ![3, 512, 16]⟩
abbrev S14336x16x32 : Shape := ⟨3, ![14336, 16, 32]⟩
abbrev S14336x16x64 : Shape := ⟨3, ![14336, 16, 64]⟩
abbrev S14336x16x12 : Shape := ⟨3, ![14336, 16, 12]⟩
abbrev S14336x16 : Shape := ⟨2, ![14336, 16]⟩
abbrev S14336x16x8 : Shape := ⟨3, ![14336, 16, 8]⟩
abbrev S14336x16x1x8 : Shape := ⟨4, ![14336, 16, 1, 8]⟩
abbrev S2 : Shape := ⟨1, ![2]⟩
abbrev S_ : Shape := ⟨0, ![]⟩
abbrev S2x1 : Shape := ⟨2, ![2, 1]⟩
abbrev S1x1x2x1 : Shape := ⟨4, ![1, 1, 2, 1]⟩
abbrev S14336x16x2x8 : Shape := ⟨4, ![14336, 16, 2, 8]⟩
abbrev S14336x16x4 : Shape := ⟨3, ![14336, 16, 4]⟩
abbrev S14336x16x1x4 : Shape := ⟨4, ![14336, 16, 1, 4]⟩
abbrev S4 : Shape := ⟨1, ![4]⟩
abbrev S4x1 : Shape := ⟨2, ![4, 1]⟩
abbrev S1x1x4x1 : Shape := ⟨4, ![1, 1, 4, 1]⟩
abbrev S14336x16x4x4 : Shape := ⟨4, ![14336, 16, 4, 4]⟩
abbrev S14336x16x16 : Shape := ⟨3, ![14336, 16, 16]⟩
abbrev S14336x16x1 : Shape := ⟨3, ![14336, 16, 1]⟩
abbrev S1x4 : Shape := ⟨2, ![1, 4]⟩
abbrev S2x4 : Shape := ⟨2, ![2, 4]⟩
abbrev S2x4x1 : Shape := ⟨3, ![2, 4, 1]⟩
abbrev S14336x16x1x1x32 : Shape := ⟨5, ![14336, 16, 1, 1, 32]⟩
abbrev S1x1x2x4x1 : Shape := ⟨5, ![1, 1, 2, 4, 1]⟩
abbrev S14336x16x2x4x32 : Shape := ⟨5, ![14336, 16, 2, 4, 32]⟩
abbrev S14336x16x2x1x32 : Shape := ⟨5, ![14336, 16, 2, 1, 32]⟩
abbrev S1x1x1x4x1 : Shape := ⟨5, ![1, 1, 1, 4, 1]⟩
abbrev S14336x16x16x16 : Shape := ⟨4, ![14336, 16, 16, 16]⟩
abbrev S14336x16x16x1 : Shape := ⟨4, ![14336, 16, 16, 1]⟩
abbrev S14336x4096 : Shape := ⟨2, ![14336, 4096]⟩
abbrev S3x512x16x256 : Shape := ⟨4, ![3, 512, 16, 256]⟩
abbrev S3x512x16x1 : Shape := ⟨4, ![3, 512, 16, 1]⟩
abbrev S3x512x14336 : Shape := ⟨3, ![3, 512, 14336]⟩
abbrev S1536x14336 : Shape := ⟨2, ![1536, 14336]⟩

abbrev nBuf : Space → Nat
  | .hbm => 108
  | .vmem => 2
  | .smem => 0
  | _ => 0

abbrev bufTy : (tb : Table) → Fin (tcTables nBuf tb) → BufTy
  | .hbm, ⟨0, _⟩ => ⟨S3x512x4096, .i8⟩
  | .hbm, ⟨1, _⟩ => ⟨S3x512x16, .f32⟩
  | .hbm, ⟨2, _⟩ => ⟨S14336x16x32, .i8⟩
  | .hbm, ⟨3, _⟩ => ⟨S14336x16x64, .i8⟩
  | .hbm, ⟨4, _⟩ => ⟨S14336x16x12, .i8⟩
  | .hbm, ⟨5, _⟩ => ⟨S14336x16, .i16⟩
  | .hbm, ⟨6, _⟩ => ⟨S14336x16, .f32⟩
  | .hbm, ⟨7, _⟩ => ⟨S14336x16x12, .i32⟩
  | .hbm, ⟨8, _⟩ => ⟨S14336x16x8, .i32⟩
  | .hbm, ⟨9, _⟩ => ⟨S14336x16x1x8, .i32⟩
  | .hbm, ⟨10, _⟩ => ⟨S2, .i32⟩
  | .hbm, ⟨11, _⟩ => ⟨S_, .i32⟩
  | .hbm, ⟨12, _⟩ => ⟨S2, .i32⟩
  | .hbm, ⟨13, _⟩ => ⟨S2, .i32⟩
  | .hbm, ⟨14, _⟩ => ⟨S2x1, .i32⟩
  | .hbm, ⟨15, _⟩ => ⟨S1x1x2x1, .i32⟩
  | .hbm, ⟨16, _⟩ => ⟨S14336x16x2x8, .i32⟩
  | .hbm, ⟨17, _⟩ => ⟨S14336x16x2x8, .i32⟩
  | .hbm, ⟨18, _⟩ => ⟨S14336x16x2x8, .i32⟩
  | .hbm, ⟨19, _⟩ => ⟨S_, .i32⟩
  | .hbm, ⟨20, _⟩ => ⟨S14336x16x2x8, .i32⟩
  | .hbm, ⟨21, _⟩ => ⟨S14336x16x2x8, .i32⟩
  | .hbm, ⟨22, _⟩ => ⟨S14336x16x4, .i32⟩
  | .hbm, ⟨23, _⟩ => ⟨S14336x16x1x4, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S4x1, .i32⟩
  | .hbm, ⟨29, _⟩ => ⟨S1x1x4x1, .i32⟩
  | .hbm, ⟨30, _⟩ => ⟨S14336x16x4x4, .i32⟩
  | .hbm, ⟨31, _⟩ => ⟨S14336x16x4x4, .i32⟩
  | .hbm, ⟨32, _⟩ => ⟨S14336x16x4x4, .i32⟩
  | .hbm, ⟨33, _⟩ => ⟨S_, .i32⟩
  | .hbm, ⟨34, _⟩ => ⟨S14336x16x4x4, .i32⟩
  | .hbm, ⟨35, _⟩ => ⟨S14336x16x4x4, .i32⟩
  | .hbm, ⟨36, _⟩ => ⟨S14336x16x16, .i32⟩
  | .hbm, ⟨37, _⟩ => ⟨S14336x16x16, .i32⟩
  | .hbm, ⟨38, _⟩ => ⟨S_, .i32⟩
  | .hbm, ⟨39, _⟩ => ⟨S14336x16x16, .i32⟩
  | .hbm, ⟨40, _⟩ => ⟨S14336x16x16, .i32⟩
  | .hbm, ⟨41, _⟩ => ⟨S14336x16x16, .i32⟩
  | .hbm, ⟨42, _⟩ => ⟨S14336x16x1, .f32⟩
  | .hbm, ⟨43, _⟩ => ⟨S_, .i32⟩
  | .hbm, ⟨44, _⟩ => ⟨S14336x16x16, .i32⟩
  | .hbm, ⟨45, _⟩ => ⟨S14336x16x16, .i32⟩
  | .hbm, ⟨46, _⟩ => ⟨S14336x16x16, .f32⟩
  | .hbm, ⟨47, _⟩ => ⟨S14336x16x16, .f32⟩
  | .hbm, ⟨48, _⟩ => ⟨S14336x16x16, .f32⟩
  | .hbm, ⟨49, _⟩ => ⟨S14336x16x16, .bf16⟩
  | .hbm, ⟨50, _⟩ => ⟨S2, .i32⟩
  | .hbm, ⟨51, _⟩ => ⟨S2x1, .i32⟩
  | .hbm, ⟨52, _⟩ => ⟨S_, .i32⟩
  | .hbm, ⟨53, _⟩ => ⟨S2x1, .i32⟩
  | .hbm, ⟨54, _⟩ => ⟨S2x1, .i32⟩
  | .hbm, ⟨55, _⟩ => ⟨S4, .i32⟩
  | .hbm, ⟨56, _⟩ => ⟨S1x4, .i32⟩
  | .hbm, ⟨57, _⟩ => ⟨S2x4, .i32⟩
  | .hbm, ⟨58, _⟩ => ⟨S2x4, .i32⟩
  | .hbm, ⟨59, _⟩ => ⟨S2x4, .i32⟩
  | .hbm, ⟨60, _⟩ => ⟨S2x4x1, .i32⟩
  | .hbm, ⟨61, _⟩ => ⟨S14336x16x32, .i32⟩
  | .hbm, ⟨62, _⟩ => ⟨S14336x16x1x1x32, .i32⟩
  | .hbm, ⟨63, _⟩ => ⟨S1x1x2x4x1, .i32⟩
  | .hbm, ⟨64, _⟩ => ⟨S14336x16x2x4x32, .i32⟩
  | .hbm, ⟨65, _⟩ => ⟨S14336x16x2x4x32, .i32⟩
  | .hbm, ⟨66, _⟩ => ⟨S14336x16x2x4x32, .i32⟩
  | .hbm, ⟨67, _⟩ => ⟨S_, .i32⟩
  | .hbm, ⟨68, _⟩ => ⟨S14336x16x2x4x32, .i32⟩
  | .hbm, ⟨69, _⟩ => ⟨S14336x16x2x4x32, .i32⟩
  | .hbm, ⟨70, _⟩ => ⟨S14336x16x64, .i32⟩
  | .hbm, ⟨71, _⟩ => ⟨S14336x16x2x1x32, .i32⟩
  | .hbm, ⟨72, _⟩ => ⟨S4, .i32⟩
  | .hbm, ⟨73, _⟩ => ⟨S_, .i32⟩
  | .hbm, ⟨74, _⟩ => ⟨S4, .i32⟩
  | .hbm, ⟨75, _⟩ => ⟨S4, .i32⟩
  | .hbm, ⟨76, _⟩ => ⟨S4x1, .i32⟩
  | .hbm, ⟨77, _⟩ => ⟨S1x1x1x4x1, .i32⟩
  | .hbm, ⟨78, _⟩ => ⟨S14336x16x2x4x32, .i32⟩
  | .hbm, ⟨79, _⟩ => ⟨S14336x16x2x4x32, .i32⟩
  | .hbm, ⟨80, _⟩ => ⟨S14336x16x2x4x32, .i32⟩
  | .hbm, ⟨81, _⟩ => ⟨S_, .i32⟩
  | .hbm, ⟨82, _⟩ => ⟨S14336x16x2x4x32, .i32⟩
  | .hbm, ⟨83, _⟩ => ⟨S14336x16x2x4x32, .i32⟩
  | .hbm, ⟨84, _⟩ => ⟨S_, .i32⟩
  | .hbm, ⟨85, _⟩ => ⟨S14336x16x2x4x32, .i32⟩
  | .hbm, ⟨86, _⟩ => ⟨S14336x16x2x4x32, .i32⟩
  | .hbm, ⟨87, _⟩ => ⟨S14336x16x2x4x32, .i32⟩
  | .hbm, ⟨88, _⟩ => ⟨S_, .i32⟩
  | .hbm, ⟨89, _⟩ => ⟨S14336x16x2x4x32, .i32⟩
  | .hbm, ⟨90, _⟩ => ⟨S14336x16x2x4x32, .i32⟩
  | .hbm, ⟨91, _⟩ => ⟨S14336x16x2x4x32, .bf16⟩
  | .hbm, ⟨92, _⟩ => ⟨S14336x16x16x16, .bf16⟩
  | .hbm, ⟨93, _⟩ => ⟨S14336x16x16x1, .bf16⟩
  | .hbm, ⟨94, _⟩ => ⟨S14336x16x16x16, .bf16⟩
  | .hbm, ⟨95, _⟩ => ⟨S14336x16x16x16, .bf16⟩
  | .hbm, ⟨96, _⟩ => ⟨S14336x4096, .bf16⟩
  | .hbm, ⟨97, _⟩ => ⟨S3x512x4096, .i32⟩
  | .hbm, ⟨98, _⟩ => ⟨S3x512x4096, .bf16⟩
  | .hbm, ⟨99, _⟩ => ⟨S3x512x16x256, .bf16⟩
  | .hbm, ⟨100, _⟩ => ⟨S3x512x16, .bf16⟩
  | .hbm, ⟨101, _⟩ => ⟨S3x512x16x1, .bf16⟩
  | .hbm, ⟨102, _⟩ => ⟨S3x512x16x256, .bf16⟩
  | .hbm, ⟨103, _⟩ => ⟨S3x512x16x256, .bf16⟩
  | .hbm, ⟨104, _⟩ => ⟨S3x512x4096, .bf16⟩
  | .hbm, ⟨105, _⟩ => ⟨S3x512x14336, .f32⟩
  | .hbm, ⟨106, _⟩ => ⟨S3x512x14336, .bf16⟩
  | .hbm, ⟨107, _⟩ => ⟨S1536x14336, .bf16⟩
  | .local _ .vmem, ⟨0, _⟩ => ⟨S14336x16, .i16⟩
  | .local _ .vmem, ⟨1, _⟩ => ⟨S14336x16, .f32⟩
  | _, _ => ⟨S3x512x4096, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_8 : Ref sig .tc := ⟨.hbm, 81, rfl⟩
abbrev main_v66 : Ref sig .tc := ⟨.hbm, 82, rfl⟩
abbrev main_v67 : Ref sig .tc := ⟨.hbm, 83, rfl⟩
abbrev main_c_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_10 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S14336x16 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/- Facts about single words and single extended reals: the kernel's reading of a float16 by its bits is what the word
   denotes; its four-bytes-at-a-time assembly of a quantized value is the plain one; its group scale integer is. -/
module

public import Idealize.ShloMosaic.PureOps.Ideal.Laws
public import Idealize.ShloMosaic.Lib.BitcastFour
public import Idealize.ShloMosaic.Lib.IdealHost
public import Idealize.ShloMosaic.Lib.ValueIdx
public import Mathlib.Data.Nat.Bitwise

@[expose] public section

set_option maxRecDepth 16384

noncomputable section

namespace Cert.Words

open Idealize.ShloMosaic

/-! ### The quantized value -/

/-- Bit `2 * j` up of the low bits' byte and bit `4 * h + j` of the high bits' byte, as a number from -4 to 3. -/
def qInt (lo hm : BitVec 8) (h j : Nat) : BitVec 32 :=
  IntOp.subi (IntOp.addi (IntOp.andi (IntOp.shrsi .host (lo.setWidth 32) (BitVec.ofNat 32 (2 * j))) 3#32)
    (IntOp.muli 4#32 (IntOp.andi (IntOp.shrsi .host (hm.setWidth 32) (BitVec.ofNat 32 (4 * h + j))) 1#32))) 4#32

/-- The byte the kernel assembles before it subtracts four. -/
def uByte (lo hm : BitVec 8) (h j : Nat) : BitVec 8 :=
  ((lo >>> (2 * j)) &&& 3#8) ||| (((hm >>> (4 * h + j)) &&& 1#8) <<< 2)

/-- Two bits of a byte, widened before or after they are cut out. -/
theorem low_eq : ∀ (lo : BitVec 8) (j : Fin 4),
    IntOp.andi (IntOp.shrsi .host (lo.setWidth 32) (BitVec.ofNat 32 (2 * j.val))) 3#32
      = ((lo >>> (2 * j.val)) &&& 3#8).setWidth 32 := by decide +kernel

/-- One bit of a byte, widened before or after it is cut out. -/
theorem high_eq : ∀ (hm : BitVec 8) (k : Fin 8),
    IntOp.andi (IntOp.shrsi .host (hm.setWidth 32) (BitVec.ofNat 32 k.val)) 1#32
      = ((hm >>> k.val) &&& 1#8).setWidth 32 := by decide +kernel

/-- Two bits of a byte are a number below four. -/
theorem low_lt : ∀ (lo : BitVec 8) (j : Fin 4), ∃ a : Fin 4, (lo >>> (2 * j.val)) &&& 3#8 = BitVec.ofNat 8 a.val := by
  decide +kernel

/-- One bit of a byte is zero or one. -/
theorem high_lt : ∀ (hm : BitVec 8) (k : Fin 8), ∃ a : Fin 2, (hm >>> k.val) &&& 1#8 = BitVec.ofNat 8 a.val := by
  decide +kernel

/-- The assembled byte less four is the quantized value, over the small cases. -/
theorem join_eq : ∀ (a : Fin 4) (b : Fin 2),
    (BitVec.ofNat 8 a.val ||| (BitVec.ofNat 8 b.val <<< 2)).toInt - 4
      = (IntOp.subi (IntOp.addi ((BitVec.ofNat 8 a.val).setWidth 32) (IntOp.muli 4#32 ((BitVec.ofNat 8 b.val).setWidth 32)))
          4#32).toInt := by decide +kernel

/-- The assembled byte less four is the quantized value. -/
theorem uByte_toInt (lo hm : BitVec 8) (h j : Nat) (hh : h < 2) (hj : j < 4) :
    (uByte lo hm h j).toInt - 4 = (qInt lo hm h j).toInt := by
  have hk : 4 * h + j < 8 := by omega
  unfold uByte qInt
  have e1 := low_eq lo ⟨j, hj⟩
  have e2 := high_eq hm ⟨4 * h + j, hk⟩
  obtain ⟨a, ha⟩ := low_lt lo ⟨j, hj⟩
  obtain ⟨b, hb⟩ := high_lt hm ⟨4 * h + j, hk⟩
  simp only at e1 e2 ha hb
  rw [e1, e2, ha, hb]
  exact join_eq a b

/-- The kernel's shift of the high bits' words, so that bit `bit` of each byte comes to bit two. -/
def hiWord (hm : BitVec 32) (bit : Nat) : BitVec 32 :=
  if 2 ≤ bit then IntOp.shrui .vector hm (BitVec.ofNat 32 (bit - 2)) else IntOp.shli .vector hm (BitVec.ofNat 32 (2 - bit))

/-- The kernel's word of four assembled bytes. -/
def uWord (lo hm : BitVec 32) (h j : Nat) : BitVec 32 :=
  IntOp.ori (IntOp.andi (IntOp.shrui .vector lo (BitVec.ofNat 32 (2 * j))) 50529027#32)
    (IntOp.andi (hiWord hm (4 * h + j)) 67372036#32)

/-- The mask of the two low bits of each byte. -/
theorem mask3 : ∀ (r : Fin 4) (q : Fin 8), (50529027#32).getLsbD (8 * r.val + q.val) = decide (q.val < 2) := by
  decide +kernel

/-- The mask of bit two of each byte. -/
theorem mask4 : ∀ (r : Fin 4) (q : Fin 8), (67372036#32).getLsbD (8 * r.val + q.val) = decide (q.val = 2) := by
  decide +kernel

/-- The mask three of a byte. -/
theorem mask3_8 : ∀ (q : Fin 8), (3#8).getLsbD q.val = decide (q.val < 2) := by decide +kernel

/-- The mask one of a byte. -/
theorem mask1_8 : ∀ (q : Nat), (1#8).getLsbD q = decide (q = 0) := by
  intro q
  rcases Nat.lt_or_ge q 8 with h | h
  · interval_cases q <;> rfl
  · rw [BitVec.getLsbD_of_ge _ _ h]; simp; omega

/-- A small amount as a 32-bit word is itself. -/
theorem amt (n : Nat) (h : n < 32) : (BitVec.ofNat 32 n).toNat = n := by
  rw [BitVec.toNat_ofNat]; omega

/-- A small number as a 32-bit word is itself. -/
theorem amt' (n : Nat) (h : n < 2 ^ 32) : (BitVec.ofNat 32 n).toNat = n := by
  rw [BitVec.toNat_ofNat]; omega

/-- An in-range left shift by a constant does not depend on the unit. -/
theorem shli_const (u : ArithUnit) (x : BitVec 32) (n : Nat) (h : n < 32) : IntOp.shli u x (BitVec.ofNat 32 n) = x <<< n := by
  unfold IntOp.shli; rw [amt n h, if_pos h]
  show x <<< (BitVec.ofNat 32 n).toNat = _
  rw [amt n h]

/-- An in-range logical right shift by a constant. -/
theorem shrui_const (x : BitVec 32) (n : Nat) (h : n < 32) : IntOp.shrui .vector x (BitVec.ofNat 32 n) = x >>> n := by
  unfold IntOp.shrui; rw [amt n h, if_pos h]
  show x >>> (BitVec.ofNat 32 n).toNat = _
  rw [amt n h]

/-- An in-range arithmetic right shift by a constant does not depend on the unit. -/
theorem shrsi_const (u : ArithUnit) (x : BitVec 32) (n : Nat) (h : n < 32) :
    IntOp.shrsi u x (BitVec.ofNat 32 n) = x.sshiftRight n := by
  unfold IntOp.shrsi; rw [amt n h, if_pos h]
  show x.sshiftRight (BitVec.ofNat 32 n).toNat = _
  rw [amt n h]

/-- Byte `r` of the kernel's word is the byte assembled from byte `r` of each of its two words. -/
theorem uWord_getLsbD (lo hm : BitVec 32) (bl bh : BitVec 8) (r : Nat) (hr : r < 4)
    (hl : ∀ q, q < 8 → lo.getLsbD (8 * r + q) = bl.getLsbD q) (hh' : ∀ q, q < 8 → hm.getLsbD (8 * r + q) = bh.getLsbD q)
    (h j : Nat) (hh : h < 2) (hj : j < 4) (q : Nat) (hq : q < 8) :
    (uWord lo hm h j).getLsbD (8 * r + q) = (uByte bl bh h j).getLsbD q := by
  have m3 := mask3 ⟨r, hr⟩ ⟨q, hq⟩
  have m4 := mask4 ⟨r, hr⟩ ⟨q, hq⟩
  have n3 := mask3_8 ⟨q, hq⟩
  simp only at m3 m4 n3
  unfold uWord uByte IntOp.ori IntOp.andi
  rw [shrui_const _ _ (by omega)]
  simp only [BitVec.getLsbD_or, BitVec.getLsbD_and, BitVec.getLsbD_ushiftRight, BitVec.getLsbD_shiftLeft, m3, m4, n3, mask1_8]
  congr 1
  · by_cases h2 : q < 2
    · rw [show 2 * j + (8 * r + q) = 8 * r + (2 * j + q) by omega, hl _ (by omega)]
    · simp [h2]
  · by_cases h2 : q = 2
    · subst h2
      have key : (hiWord hm (4 * h + j)).getLsbD (8 * r + 2) = bh.getLsbD (4 * h + j) := by
        unfold hiWord
        by_cases hb : 2 ≤ 4 * h + j
        · rw [if_pos hb, shrui_const _ _ (by omega), BitVec.getLsbD_ushiftRight,
            show 4 * h + j - 2 + (8 * r + 2) = 8 * r + (4 * h + j) by omega, hh' _ (by omega)]
        · rw [if_neg hb, shli_const _ _ _ (by omega), BitVec.getLsbD_shiftLeft,
            show 8 * r + 2 - (2 - (4 * h + j)) = 8 * r + (4 * h + j) by omega, hh' _ (by omega)]
          have : 8 * r + 2 < 32 := by omega
          have : ¬ (8 * r + 2 < 2 - (4 * h + j)) := by omega
          simp [*]
      rw [key]; simp
    · have : ¬ (q - 2 = 0) ∨ q < 2 := by omega
      rcases this with h3 | h3 <;> simp [h2, h3]

/-! ### The group scale's integer -/

/-- The scale of group `i` of a block: four bits of one byte and two of another, less thirty-two. -/
def scInt (lo hi : BitVec 8) (i : Nat) : BitVec 32 :=
  IntOp.subi (IntOp.ori (IntOp.andi ((lo.setWidth 32).sshiftRight (4 * (i / 8))) 15#32)
    ((IntOp.andi ((hi.setWidth 32).sshiftRight (2 * (i / 4))) 3#32) <<< 4)) 32#32

/-- A product of small numbers as words. -/
theorem muli_ofNat (a b : Nat) : IntOp.muli (BitVec.ofNat 32 a) (BitVec.ofNat 32 b) = BitVec.ofNat 32 (a * b) := by
  unfold IntOp.muli; rw [BitVec.ofNat_mul]

/-- A sum of small numbers as words. -/
theorem addi_ofNat (a b : Nat) : IntOp.addi (BitVec.ofNat 32 a) (BitVec.ofNat 32 b) = BitVec.ofNat 32 (a + b) := by
  unfold IntOp.addi; rw [BitVec.ofNat_add]

/-! ### The float16 scale -/

/-- The magnitude the kernel reads out of a float16's bits. -/
def magOf (x : BitVec 32) : EReal :=
  Scalar.select
    (IntOp.cmpi .eq (IntOp.andi (IntOp.shrsi .vector x 10#32) 31#32) 0#32)
    (((((IntOp.andi x 1023#32).toInt : ℝ) : EReal)) * Ideal.ofBits .f32 0x33800000#32)
    (Ideal.ofBits .f32 (Scalar.select (IntOp.cmpi .eq (IntOp.andi (IntOp.shrsi .vector x 10#32) 31#32) 31#32)
      (IntOp.ori 2139095040#32 (IntOp.shli .vector (IntOp.andi x 1023#32) 13#32))
      (IntOp.ori (IntOp.shli .vector (IntOp.addi (IntOp.andi (IntOp.shrsi .vector x 10#32) 31#32) 112#32) 23#32)
        (IntOp.shli .vector (IntOp.andi x 1023#32) 13#32))))

/-- The value the kernel reads out of a float16's bits. -/
def decOf (x : BitVec 32) : EReal :=
  Scalar.select (IntOp.cmpi .ne (IntOp.shli .vector (IntOp.andi x 32768#32) 16#32) 0#32)
    (Ideal.ofBits .f32 0x00000000#32 - magOf x) (magOf x)

/-- A float's value by its three fields. -/
def ofFields (e m : Nat) (neg : Bool) (ex fr : Nat) : EReal :=
  let bias : Int := 2 ^ (e - 1) - 1
  let sgn : ℝ := if neg then -1 else 1
  if ex = 2 ^ e - 1 then (if fr = 0 then (if neg then ⊥ else ⊤) else ⊥)
  else if ex = 0 then ((sgn * fr * (2 : ℝ) ^ (1 - bias - m : Int) : ℝ) : EReal)
  else ((sgn * (2 ^ m + fr : Nat) * (2 : ℝ) ^ ((ex : Int) - bias - m) : ℝ) : EReal)

/-- The value a pattern denotes, by its three fields read as numbers. -/
theorem ieee_eq (e m : Nat) {w : Nat} (b : BitVec w) :
    Ideal.ieee e m b = ofFields e m (decide (b.toNat / 2 ^ (e + m) % 2 = 1)) (b.toNat / 2 ^ m % 2 ^ e) (b.toNat % 2 ^ m) := by
  have h1 : (b.extractLsb' (e + m) 1 == 1#1) = decide (b.toNat / 2 ^ (e + m) % 2 = 1) := by
    rw [Bool.eq_iff_iff, beq_iff_eq, decide_eq_true_iff, ← BitVec.toNat_inj, BitVec.extractLsb'_toNat, Nat.shiftRight_eq_div_pow]
    rfl
  unfold Ideal.ieee ofFields
  simp only [h1, BitVec.extractLsb'_toNat, Nat.shiftRight_eq_div_pow, pow_zero, Nat.div_one]

/-- A word widened keeps its number. -/
theorem ext_toNat (b : BitVec 16) : (b.setWidth 32).toNat = b.toNat := by
  rw [BitVec.toNat_setWidth]; have := b.isLt; omega

/-- The exponent field, as the kernel cuts it out. -/
theorem expo_eq (b : BitVec 16) :
    IntOp.andi (IntOp.shrsi .vector (b.setWidth 32) 10#32) 31#32 = BitVec.ofNat 32 (b.toNat / 1024 % 32) := by
  have hb := b.isLt
  rw [show (10#32 : BitVec 32) = BitVec.ofNat 32 10 from rfl, shrsi_const _ _ _ (by omega)]
  have hm : (b.setWidth 32).msb = false := by rw [BitVec.msb_eq_false_iff_two_mul_lt, ext_toNat]; omega
  rw [BitVec.sshiftRight_eq_of_msb_false hm]
  apply BitVec.eq_of_toNat_eq
  unfold IntOp.andi
  rw [BitVec.toNat_and, BitVec.toNat_ushiftRight, ext_toNat, BitVec.toNat_ofNat, BitVec.toNat_ofNat, Nat.shiftRight_eq_div_pow,
    show (31 % 2 ^ 32 : Nat) = 2 ^ 5 - 1 from rfl, Nat.and_two_pow_sub_one_eq_mod]
  omega

/-- The mantissa field, as the kernel cuts it out. -/
theorem mant_eq (b : BitVec 16) : IntOp.andi (b.setWidth 32) 1023#32 = BitVec.ofNat 32 (b.toNat % 1024) := by
  have hb := b.isLt
  apply BitVec.eq_of_toNat_eq
  unfold IntOp.andi
  rw [BitVec.toNat_and, ext_toNat, BitVec.toNat_ofNat, BitVec.toNat_ofNat,
    show (1023 % 2 ^ 32 : Nat) = 2 ^ 10 - 1 from rfl, Nat.and_two_pow_sub_one_eq_mod]
  omega

/-- The kernel's test of the sign bit. -/
theorem sign_eq (b : BitVec 16) :
    IntOp.cmpi .ne (IntOp.shli .vector (IntOp.andi (b.setWidth 32) 32768#32) 16#32) 0#32
      = BitVec.ofBool (decide (b.toNat / 2 ^ 15 % 2 = 1)) := by
  have hb := b.isLt
  have e : IntOp.andi (b.setWidth 32) 32768#32 = BitVec.ofNat 32 (2 ^ 15 * (b.toNat / 2 ^ 15)) := by
    apply BitVec.eq_of_toNat_eq
    unfold IntOp.andi
    rw [BitVec.toNat_and, ext_toNat, BitVec.toNat_ofNat, BitVec.toNat_ofNat, show (32768 % 2 ^ 32 : Nat) = 2 ^ 15 from rfl,
      Nat.and_two_pow, Nat.toNat_testBit]
    omega
  rw [e]
  unfold IntOp.cmpi
  have h2 : b.toNat / 2 ^ 15 = 0 ∨ b.toNat / 2 ^ 15 = 1 := by omega
  rcases h2 with h | h <;> rw [h] <;> decide +kernel

/-- Two fields joined in a word. -/
theorem join_toNat (a c : Nat) (ha : a < 512) (hc : c < 1024) :
    (IntOp.ori (IntOp.shli .vector (BitVec.ofNat 32 a) 23#32) (IntOp.shli .vector (BitVec.ofNat 32 c) 13#32)).toNat
      = a * 2 ^ 23 + c * 2 ^ 13 := by
  rw [show (23#32 : BitVec 32) = BitVec.ofNat 32 23 from rfl, show (13#32 : BitVec 32) = BitVec.ofNat 32 13 from rfl,
    shli_const _ _ _ (by omega), shli_const _ _ _ (by omega)]
  unfold IntOp.ori
  rw [BitVec.toNat_or, BitVec.toNat_shiftLeft, BitVec.toNat_shiftLeft, BitVec.toNat_ofNat, BitVec.toNat_ofNat,
    Nat.mod_eq_of_lt (a := a) (by omega), Nat.mod_eq_of_lt (a := c) (by omega),
    Nat.mod_eq_of_lt (a := a <<< 23) (by rw [Nat.shiftLeft_eq]; omega),
    Nat.mod_eq_of_lt (a := c <<< 13) (by rw [Nat.shiftLeft_eq]; omega),
    ← Nat.shiftLeft_add_eq_or_of_lt (by rw [Nat.shiftLeft_eq]; omega), Nat.shiftLeft_eq, Nat.shiftLeft_eq]

/-- A binary32 pattern's value. -/
theorem ofBits_f32 (b : BitVec 32) : Ideal.ofBits .f32 b = Ideal.ieee 8 23 b := by simp only [Ideal.ofBits]

/-- The smallest binary32 scale the kernel multiplies a subnormal's mantissa by. -/
theorem tiny_eq : Ideal.ofBits .f32 0x33800000#32 = (((2 : ℝ) ^ (-24 : Int) : ℝ) : EReal) := by
  rw [ofBits_f32, ieee_eq]
  have h1 : (0x33800000#32 : BitVec 32).toNat / 2 ^ (8 + 23) % 2 = 0 := by decide
  have h2 : (0x33800000#32 : BitVec 32).toNat / 2 ^ 23 % 2 ^ 8 = 103 := by decide
  have h3 : (0x33800000#32 : BitVec 32).toNat % 2 ^ 23 = 0 := by decide
  rw [h1, h2, h3]
  simp only [ofFields]
  norm_num

/-- A comparison of small words for equality. -/
theorem cmp_eq (e k : Nat) (he : e < 2 ^ 32) (hk : k < 2 ^ 32) :
    (IntOp.cmpi .eq (BitVec.ofNat 32 e) (BitVec.ofNat 32 k) = 1) ↔ e = k := by
  have : (BitVec.ofNat 32 e = BitVec.ofNat 32 k) ↔ e = k := by
    rw [← BitVec.toNat_inj, amt' e he, amt' k hk]
  unfold IntOp.cmpi
  by_cases h : e = k
  · subst h; simp
  · have hn : (BitVec.ofNat 32 e == BitVec.ofNat 32 k) = false := beq_false_of_ne fun hh => h (this.1 hh)
    rw [hn]; simp [h]

/-- The magnitude the kernel reads is the value of the same fields with a positive sign. -/
theorem magOf_eq (b : BitVec 16) :
    magOf (b.setWidth 32) = ofFields 5 10 false (b.toNat / 1024 % 32) (b.toNat % 1024) := by
  have hb := b.isLt
  unfold magOf
  rw [expo_eq, mant_eq]
  generalize he : b.toNat / 1024 % 32 = e
  generalize hm : b.toNat % 1024 = m
  have he' : e < 32 := by omega
  have hm' : m < 1024 := by omega
  unfold Scalar.select
  simp only [cmp_eq e 0 (by omega) (by omega), cmp_eq e 31 (by omega) (by omega)]
  by_cases h0 : e = 0
  · rw [if_pos h0, tiny_eq]
    subst h0
    have : (BitVec.ofNat 32 m).toInt = m := by
      rw [BitVec.toInt_eq_toNat_of_lt] <;> rw [amt' m (by omega)]; omega
    rw [this]
    simp only [ofFields]
    norm_num
  · rw [if_neg h0, ofBits_f32, ieee_eq]
    by_cases h31 : e = 31
    · rw [if_pos h31, show (2139095040#32 : BitVec 32) = IntOp.shli .vector (BitVec.ofNat 32 255) 23#32 by decide +kernel,
        join_toNat 255 m (by omega) hm']
      have f1 : (255 * 2 ^ 23 + m * 2 ^ 13) / 2 ^ (8 + 23) % 2 = 0 := by omega
      have f2 : (255 * 2 ^ 23 + m * 2 ^ 13) / 2 ^ 23 % 2 ^ 8 = 255 := by omega
      have f3 : (255 * 2 ^ 23 + m * 2 ^ 13) % 2 ^ 23 = m * 2 ^ 13 := by omega
      rw [f1, f2, f3, h31]
      simp [ofFields]
    · rw [if_neg h31]
      have : IntOp.addi (BitVec.ofNat 32 e) 112#32 = BitVec.ofNat 32 (e + 112) := by
        unfold IntOp.addi; rw [BitVec.ofNat_add]
      rw [this, join_toNat (e + 112) m (by omega) hm']
      have f1 : ((e + 112) * 2 ^ 23 + m * 2 ^ 13) / 2 ^ (8 + 23) % 2 = 0 := by
        rw [show (2 : ℕ) ^ (8 + 23) = 2147483648 by norm_num]; omega
      have f2 : ((e + 112) * 2 ^ 23 + m * 2 ^ 13) / 2 ^ 23 % 2 ^ 8 = e + 112 := by omega
      have f3 : ((e + 112) * 2 ^ 23 + m * 2 ^ 13) % 2 ^ 23 = m * 2 ^ 13 := by omega
      rw [f1, f2, f3]
      simp only [ofFields]
      have g1 : ¬ (e + 112 = 2 ^ 8 - 1) := by norm_num; omega
      have g2 : ¬ (e + 112 = 0) := by omega
      have g3 : ¬ (e = 2 ^ 5 - 1) := by norm_num; omega
      rw [if_neg g1, if_neg g2, if_neg g3, if_neg h0]
      congr 1
      push_cast
      rw [show ((e : ℤ) + 112 - 127 - 23) = -13 + ((e : ℤ) - 15 - 10) by ring,
        zpow_add₀ (by norm_num)]
      norm_num
      ring

/-- A value with its sign set is the negation of the value without it, but for a NaN. -/
theorem ofFields_neg (ex fr : Nat) (h : ¬ (ex = 31 ∧ fr ≠ 0)) :
    ofFields 5 10 true ex fr = - ofFields 5 10 false ex fr := by
  simp only [ofFields]
  have e31 : (2 : ℕ) ^ 5 - 1 = 31 := by norm_num
  rw [e31]
  by_cases h1 : ex = 31
  · have h2 : fr = 0 := by by_contra hc; exact h ⟨h1, hc⟩
    simp [h1, h2]
  · rw [if_neg h1, if_neg h1]
    by_cases h2 : ex = 0
    · rw [if_pos h2, if_pos h2, ← EReal.coe_neg]
      congr 1
      simp
    · rw [if_neg h2, if_neg h2, ← EReal.coe_neg]
      congr 1
      simp only [if_true, Bool.false_eq_true, if_false]
      ring

/-- The kernel's reading of a float16 is what its word denotes, unless the word is a NaN with its sign set. -/
theorem decOf_eq (b : BitVec 16) (h : b.toNat ≤ 64512) : decOf (b.setWidth 32) = Ideal.ofBits .f16 b := by
  have hb := b.isLt
  have e16 : Ideal.ofBits .f16 b = Ideal.ieee 5 10 b := by simp only [Ideal.ofBits]
  rw [e16, ieee_eq]
  unfold decOf
  rw [sign_eq, magOf_eq, Ideal.ofBits_zero_f32]
  unfold Scalar.select
  by_cases hs : b.toNat / 2 ^ 15 % 2 = 1
  · have : decide (b.toNat / 2 ^ (5 + 10) % 2 = 1) = true := by simpa using hs
    rw [this, ofFields_neg _ _ (by omega)]
    simp [hs]
  · have : decide (b.toNat / 2 ^ (5 + 10) % 2 = 1) = false := by simpa using hs
    rw [this]
    simp [hs]

end Cert.Words
-- ==== Proof.Pieces.lean ====
/- The pieces the kernel's body leaves in its buffers, as families: one formula per buffer in place of the list of
   stores, and the proof that the run's lists are these. -/
module

public import proofs.«01_k».proof.Proof.Words
public import proofs.«01_k».proof.Proof.Gen.KernelIdeal.Frame

@[expose] public section

set_option maxRecDepth 16384

noncomputable section

namespace Cert.Pieces

open Idealize.ShloMosaic Idealize.ShloMosaic.TcCoe Idealize.ShloMosaic.Tactic Idealize.SL.Sem
open Cert.KernelIdeal Cert.KernelIdeal.Gen

variable {F : FTy → Type} [FloatOps F]

/-- The numbers below `n`, last first: the order in which a run lists its stores. -/
def down : Nat → List Nat
  | 0 => []
  | n + 1 => n :: down n

theorem mem_down {k : Nat} : ∀ {n : Nat}, k ∈ down n ↔ k < n
  | 0 => by simp [down]
  | n + 1 => by
    unfold down
    rw [List.mem_cons, mem_down]
    omega

/-! ### The group scales -/

theorem inbG (i c : Nat) (hi : i < 16) (hc : c < 4) :
    ∀ a, (![i, 0, c * 128] : Fin 3 → Nat) a + S1x16x128.size a ≤ S16x16x512.size a := fun a => by
  match a with
  | ⟨0, _⟩ => show i + 1 ≤ 16; omega
  | ⟨1, _⟩ => show 0 + 16 ≤ 16; omega
  | ⟨2, _⟩ => show c * 128 + 128 ≤ 512; omega

theorem inbS (r c : Nat) (hr : r < 12) (hc : c < 4) :
    ∀ a, (![r, 0, c * 128] : Fin 3 → Nat) a + S1x16x128.size a ≤ S12x16x512.size a := fun a => by
  match a with
  | ⟨0, _⟩ => show r + 1 ≤ 12; omega
  | ⟨1, _⟩ => show 0 + 16 ≤ 16; omega
  | ⟨2, _⟩ => show c * 128 + 128 ≤ 512; omega

theorem inbD (c : Nat) (hc : c < 4) :
    ∀ a, (![0, c * 128] : Fin 2 → Nat) a + S16x128.size a ≤ S16x512.size a := fun a => by
  match a with
  | ⟨0, _⟩ => show 0 + 16 ≤ 16; omega
  | ⟨1, _⟩ => show c * 128 + 128 ≤ 512; omega

/-- The float16 scales of 128 rows, read by their bits. -/
def decVec (v3 : Vec F S16x128 .i16) : FVec F S16x128 .f32 :=
  k0_pay64 (k0_pay62 v3) (k0_pay63 v3) (Scalar.ofBits .f32 0x00000000#32)

/-- The group scales of group `i`, from the float16 scales and the two byte rows they are cut from. -/
def gPay (i : Nat) (v3 : Vec F S16x128 .i16) (lo hi : Vec F S1x16x128 .i8) : FVec F S1x16x128 .f32 :=
  shapeCast S1x16x128 (extf .f32 (truncf .bf16 (mulf (decVec v3) (sitofp .f32 (subi (ori
    (andi (shrsi (extui 32 (shapeCast S16x128 lo shapeCasts_S1x16x128_S16x128) natLt_8_32) (broadcast S16x128 (BitVec.ofNat 32 (4 * (i / 8)))))
      (broadcast S16x128 15#32))
    (shli (andi (shrsi (extui 32 (shapeCast S16x128 hi shapeCasts_S1x16x128_S16x128) natLt_8_32) (broadcast S16x128 (BitVec.ofNat 32 (2 * (i / 4)))))
      (broadcast S16x128 3#32)) (broadcast S16x128 4#32)))
    (broadcast S16x128 32#32)))) bitsLt_bf16_f32) bitsLt_bf16_f32) shapeCasts_S16x128_S1x16x128

/-- Store `n` of the group scales: group `n % 16` of the 128 rows from `n / 16`. -/
def gPiece (arg5 : Memref sig .tc .vmem S12x16x512 .i8) (harg5 : arg5.IsWhole) (arg6 : Memref sig .tc .vmem S16x512 .i16)
    (harg6 : arg6.IsWhole) (x4 : Vec F S12x16x512 .i8) (x5 : Vec F S16x512 .i16) (n : Nat) :
    View.Piece (Elt F) S16x16x512 .f32 :=
  ⟨Rect.unit ![n % 16, 0, n / 16 % 4 * 128] S1x16x128.size (inbG _ _ (by omega) (by omega)),
    gPay (n % 16)
      (View.readAt (Elt F) arg6.view (Rect.unit (s := S16x512) ![0, n / 16 % 4 * 128] S16x128.size (inbD _ (by omega))).toLoadRect (harg6.unread x5))
      (View.readAt (Elt F) arg5.view (Rect.unit (s := S12x16x512) ![n % 16 % 8, 0, n / 16 % 4 * 128] S1x16x128.size (inbS _ _ (by omega) (by omega))).toLoadRect (harg5.unread x4))
      (View.readAt (Elt F) arg5.view (Rect.unit (s := S12x16x512) ![8 + n % 16 % 4, 0, n / 16 % 4 * 128] S1x16x128.size (inbS _ _ (by omega) (by omega))).toLoadRect (harg5.unread x4))⟩

/-! ### The weights -/

theorem inbW (k c : Nat) (hk : k < 256) (hc : c < 4) :
    ∀ a, (![k * 16, c * 128] : Fin 2 → Nat) a + S16x128.size a ≤ S4096x512.size a := fun a => by
  match a with
  | ⟨0, _⟩ => show k * 16 + 16 ≤ 4096; omega
  | ⟨1, _⟩ => show c * 128 + 128 ≤ 512; omega

theorem inbH (b c : Nat) (hb : b < 16) (hc : c < 4) :
    ∀ a, (![b, 0, c * 128] : Fin 3 → Nat) a + S1x32x128.size a ≤ S16x32x512.size a := fun a => by
  match a with
  | ⟨0, _⟩ => show b + 1 ≤ 16; omega
  | ⟨1, _⟩ => show 0 + 32 ≤ 32; omega
  | ⟨2, _⟩ => show c * 128 + 128 ≤ 512; omega

theorem inbQ (b h c : Nat) (hb : b < 16) (hh : h < 2) (hc : c < 4) :
    ∀ a, (![b, 32 * h, c * 128] : Fin 3 → Nat) a + S1x32x128.size a ≤ S16x64x512.size a := fun a => by
  match a with
  | ⟨0, _⟩ => show b + 1 ≤ 16; omega
  | ⟨1, _⟩ => show 32 * h + 32 ≤ 64; omega
  | ⟨2, _⟩ => show c * 128 + 128 ≤ 512; omega

theorem inbR (i b c : Nat) (hi : i < 16) (hb : b < 16) (hc : c < 4) :
    ∀ a, (![i, b, c * 128] : Fin 3 → Nat) a + S1x1x128.size a ≤ S16x16x512.size a := fun a => by
  match a with
  | ⟨0, _⟩ => show i + 1 ≤ 16; omega
  | ⟨1, _⟩ => show b + 1 ≤ 16; omega
  | ⟨2, _⟩ => show c * 128 + 128 ≤ 512; omega

theorem slicesQ (l : Nat) (hl : l < 2) : S32x128.Slices ![16 * l, 0] S16x128 := by
  interval_cases l <;> decide

/-- The words of the high bits, shifted so that each byte's bit is at two. -/
def hiVec (hm : IVec S8x128 32) (bit : Nat) : IVec S8x128 32 :=
  if 2 ≤ bit then shrui hm (broadcast S8x128 (BitVec.ofNat 32 (bit - 2)))
  else shli hm (broadcast S8x128 (BitVec.ofNat 32 (2 - bit)))

/-- The quantized values of 32 columns of the model dimension, for 128 rows. -/
def qPay (h j : Nat) (hm lo : Vec F S1x32x128 .i8) : FVec F S32x128 .bf16 :=
  subf (sitofp .bf16 (bitcast S32x128 8
    (ori (andi (shrui (bitcast S8x128 32 (shapeCast S32x128 lo shapeCasts_S1x32x128_S32x128) bitcasts_S32x128_w8_S8x128_w32)
        (broadcast S8x128 (BitVec.ofNat 32 (2 * j)))) (broadcast S8x128 50529027#32))
      (andi (hiVec (bitcast S8x128 32 (shapeCast S32x128 hm shapeCasts_S1x32x128_S32x128) bitcasts_S32x128_w8_S8x128_w32) (4 * h + j))
        (broadcast S8x128 67372036#32))) bitcasts_S8x128_w32_S32x128_w8))
    (broadcast S32x128 (Scalar.ofBits .bf16 0x4080#16))

/-- The weights of 16 of those columns: the quantized values times their group's scales. -/
def wPay (h j l : Nat) (hl : l < 2) (hm lo : Vec F S1x32x128 .i8) (g : Vec F S1x1x128 .f32) : FVec F S16x128 .bf16 :=
  shapeCast S16x128 (mulf (extractStridedSlice S16x128 ![16 * l, 0] (qPay h j hm lo) (slicesQ l hl))
    (truncf .bf16 (broadcastTo S16x128 (shapeCast S1x128 (shapeCast S1x128 g shapeCasts_S1x1x128_S1x128) shapeCasts_S1x128_S1x128)
      broadcasts_S1x128_S16x128) bitsLt_bf16_f32)) shapeCasts_S16x128_S16x128

/-- Store `n` of the weights: block `n / 64`, the 128 rows from `n / 16 % 4`, half `n / 8 % 2`, shift `n / 2 % 4`, group
    `n % 2` of the two the shift holds. -/
def wPiece (arg3 : Memref sig .tc .vmem S16x32x512 .i8) (harg3 : arg3.IsWhole) (arg4 : Memref sig .tc .vmem S16x64x512 .i8)
    (harg4 : arg4.IsWhole) (arg10 : Memref sig .tc .vmem S16x16x512 .f32) (x2 : Vec F S16x32x512 .i8) (x3 : Vec F S16x64x512 .i8)
    (G : List (View.Piece (Elt F) S16x16x512 .f32)) (n : Nat) : View.Piece (Elt F) S4096x512 .bf16 :=
  ⟨Rect.unit ![(n / 64 % 16 * 16 + n % 16) * 16, n / 16 % 4 * 128] S16x128.size (inbW _ _ (by omega) (by omega)),
    wPay (n / 8 % 2) (n / 2 % 4) (n % 2) (by omega)
      (View.readAt (Elt F) arg3.view (Rect.unit (s := S16x32x512) ![n / 64 % 16, 0, n / 16 % 4 * 128] S1x32x128.size (inbH _ _ (by omega) (by omega))).toLoadRect (harg3.unread x2))
      (View.readAt (Elt F) arg4.view (Rect.unit (s := S16x64x512) ![n / 64 % 16, 32 * (n / 8 % 2), n / 16 % 4 * 128] S1x32x128.size (inbQ _ _ _ (by omega) (by omega) (by omega))).toLoadRect (harg4.unread x3))
      (arg10.view.readCov G (Rect.unit (s := S16x16x512) ![n % 16, n / 64 % 16, n / 16 % 4 * 128] S1x1x128.size (inbR _ _ _ (by omega) (by omega) (by omega))).toLoadRect)⟩

/-! ### The activations -/

theorem inbX (s b : Nat) (hs : s < 3) (hb : b < 16) :
    ∀ a, (![s * 512, b * 256] : Fin 2 → Nat) a + S512x256.size a ≤ S1536x4096.size a := fun a => by
  match a with
  | ⟨0, _⟩ => show s * 512 + 512 ≤ 1536; omega
  | ⟨1, _⟩ => show b * 256 + 256 ≤ 4096; omega

theorem inbXs (s : Nat) (hs : s < 3) :
    ∀ a, (![s, 0, 0] : Fin 3 → Nat) a + S1x16x512.size a ≤ S3x16x512.size a := fun a => by
  match a with
  | ⟨0, _⟩ => show s + 1 ≤ 3; omega
  | ⟨1, _⟩ => show 0 + 16 ≤ 16; omega
  | ⟨2, _⟩ => show 0 + 512 ≤ 512; omega

theorem slicesX (b : Nat) (hb : b < 16) : S512x16.Slices ![0, b] S512x1 := by
  interval_cases b <;> decide

/-- The scaled activations of one block of one sequence. -/
def xPay (b : Nat) (hb : b < 16) (xs : Vec F S1x16x512 .f32) (xq : Vec F S512x256 .i8) : FVec F S512x256 .bf16 :=
  shapeCast S512x256 (mulf (sitofp .bf16 (shapeCast S512x256 xq shapeCasts_S512x256_S512x256))
    (broadcastTo S512x256 (extractStridedSlice S512x1 ![0, b] (k0_pay2 xs) (slicesX b hb)) broadcasts_S512x1_S512x256))
    shapeCasts_S512x256_S512x256

/-- Store `n` of the activations: sequence `n / 16`, block `n % 16`. -/
def xPiece (arg1 : Memref sig .tc .vmem S1536x4096 .i8) (harg1 : arg1.IsWhole) (arg2 : Memref sig .tc .vmem S3x16x512 .f32)
    (harg2 : arg2.IsWhole) (x0 : Vec F S1536x4096 .i8) (x1 : Vec F S3x16x512 .f32) (n : Nat) :
    View.Piece (Elt F) S1536x4096 .bf16 :=
  ⟨Rect.unit ![n / 16 % 3 * 512, n % 16 * 256] S512x256.size (inbX _ _ (by omega) (by omega)),
    xPay (n % 16) (by omega)
      (View.readAt (Elt F) arg2.view (Rect.unit (s := S3x16x512) ![n / 16 % 3, 0, 0] S1x16x512.size (inbXs _ (by omega))).toLoadRect (harg2.unread x1))
      (View.readAt (Elt F) arg1.view (Rect.unit (s := S1536x4096) ![n / 16 % 3 * 512, n % 16 * 256] S512x256.size (inbX _ _ (by omega) (by omega))).toLoadRect (harg1.unread x0))⟩

/-! ### The output -/

theorem inbY (r : Nat) (hr : r < 3) :
    ∀ a, (![r * 512, 0] : Fin 2 → Nat) a + S512x512.size a ≤ S1536x512.size a := fun a => by
  match a with
  | ⟨0, _⟩ => show r * 512 + 512 ≤ 1536; omega
  | ⟨1, _⟩ => show 0 + 512 ≤ 512; omega

theorem inbXr (r : Nat) (hr : r < 3) :
    ∀ a, (![r * 512, 0] : Fin 2 → Nat) a + S512x4096.size a ≤ S1536x4096.size a := fun a => by
  match a with
  | ⟨0, _⟩ => show r * 512 + 512 ≤ 1536; omega
  | ⟨1, _⟩ => show 0 + 4096 ≤ 4096; omega

/-- Store `n` of the output, where the activations' buffer holds its pieces: 512 rows of activations times the weights. -/
def yPieceA (arg8 : Memref sig .tc .vmem S1536x4096 .bf16) (arg9 : Memref sig .tc .vmem S4096x512 .bf16)
    (X : List (View.Piece (Elt F) S1536x4096 .bf16)) (W : List (View.Piece (Elt F) S4096x512 .bf16)) (n : Nat) :
    View.Piece (Elt F) S1536x512 .bf16 :=
  ⟨Rect.unit ![n % 3 * 512, 0] S512x512.size (inbY _ (by omega)),
    k0_pay1 (arg8.view.readCov X (Rect.unit (s := S1536x4096) ![n % 3 * 512, 0] S512x4096.size (inbXr _ (by omega))).toLoadRect)
      (arg9.view.readCov W (Rect.unit (s := S4096x512) ![0, 0] S4096x512.size inb_S4096x512_S4096x512_0_0).toLoadRect)⟩

/-- Store `n` of the output, where the activations' buffer holds an array left by an earlier point. -/
def yPieceB (arg8 : Memref sig .tc .vmem S1536x4096 .bf16) (harg8 : arg8.IsWhole) (arg9 : Memref sig .tc .vmem S4096x512 .bf16)
    (xs0 : Vec F S1536x4096 .bf16) (W : List (View.Piece (Elt F) S4096x512 .bf16)) (n : Nat) :
    View.Piece (Elt F) S1536x512 .bf16 :=
  ⟨Rect.unit ![n % 3 * 512, 0] S512x512.size (inbY _ (by omega)),
    k0_pay1 (View.readAt (Elt F) arg8.view (Rect.unit (s := S1536x4096) ![n % 3 * 512, 0] S512x4096.size (inbXr _ (by omega))).toLoadRect (harg8.unread xs0))
      (arg9.view.readCov W (Rect.unit (s := S4096x512) ![0, 0] S4096x512.size inb_S4096x512_S4096x512_0_0).toLoadRect)⟩

section A

variable (c : Dev nD) (i : grid0.Coords) (arg1 : Memref sig .tc .vmem S1536x4096 .i8) (harg1 : arg1.IsWhole) (arg2 : Memref sig .tc .vmem S3x16x512 .f32) (harg2 : arg2.IsWhole) (arg3 : Memref sig .tc .vmem S16x32x512 .i8) (harg3 : arg3.IsWhole) (arg4 : Memref sig .tc .vmem S16x64x512 .i8) (harg4 : arg4.IsWhole) (arg5 : Memref sig .tc .vmem S12x16x512 .i8) (harg5 : arg5.IsWhole) (arg6 : Memref sig .tc .vmem S16x512 .i16) (harg6 : arg6.IsWhole) (arg7 : Memref sig .tc .vmem S1536x512 .bf16) (harg7 : arg7.IsWhole) (arg8 : Memref sig .tc .vmem S1536x4096 .bf16) (harg8 : arg8.IsWhole) (arg9 : Memref sig .tc .vmem S4096x512 .bf16) (harg9 : arg9.IsWhole) (arg10 : Memref sig .tc .vmem S16x16x512 .f32) (harg10 : arg10.IsWhole) (hc0 : cond0_0 i)
  (x0 : Vec F S1536x4096 .i8) (x1 : Vec F S3x16x512 .f32) (x2 : Vec F S16x32x512 .i8) (x3 : Vec F S16x64x512 .i8) (x4 : Vec F S12x16x512 .i8) (x5 : Vec F S16x512 .i16)

/-- The group scales' stores at the first point are the family's. -/
theorem gPieces_A : (kernelRun0_A c i arg1 harg1 arg2 harg2 arg3 harg3 arg4 harg4 arg5 harg5 arg6 harg6 arg7 harg7 arg8 harg8 arg9 harg9 arg10 harg10 hc0 x0 x1 x2 x3 x4 x5).2.2.2.val
    = (down 64).map (gPiece arg5 harg5 arg6 harg6 x4 x5) := by
  sl_kernel_rfl

/-- The activations' stores at the first point are the family's. -/
theorem xPieces_A : (kernelRun0_A c i arg1 harg1 arg2 harg2 arg3 harg3 arg4 harg4 arg5 harg5 arg6 harg6 arg7 harg7 arg8 harg8 arg9 harg9 arg10 harg10 hc0 x0 x1 x2 x3 x4 x5).2.1
    = (down 48).map (xPiece arg1 harg1 arg2 harg2 x0 x1) := by
  sl_kernel_rfl

/-- The weights' stores at the first point are the family's, over the group scales' stores. -/
theorem wPieces_A : (kernelRun0_A c i arg1 harg1 arg2 harg2 arg3 harg3 arg4 harg4 arg5 harg5 arg6 harg6 arg7 harg7 arg8 harg8 arg9 harg9 arg10 harg10 hc0 x0 x1 x2 x3 x4 x5).2.2.1
    = (down 1024).map (wPiece arg3 harg3 arg4 harg4 arg10 x2 x3
        (kernelRun0_A c i arg1 harg1 arg2 harg2 arg3 harg3 arg4 harg4 arg5 harg5 arg6 harg6 arg7 harg7 arg8 harg8 arg9 harg9 arg10 harg10 hc0 x0 x1 x2 x3 x4 x5).2.2.2.val) := by
  sl_kernel_rfl

/-- The output's stores at the first point are the family's, over the activations' and the weights' stores. -/
theorem yPieces_A : (kernelRun0_A c i arg1 harg1 arg2 harg2 arg3 harg3 arg4 harg4 arg5 harg5 arg6 harg6 arg7 harg7 arg8 harg8 arg9 harg9 arg10 harg10 hc0 x0 x1 x2 x3 x4 x5).1
    = (down 3).map (yPieceA arg8 arg9
        (kernelRun0_A c i arg1 harg1 arg2 harg2 arg3 harg3 arg4 harg4 arg5 harg5 arg6 harg6 arg7 harg7 arg8 harg8 arg9 harg9 arg10 harg10 hc0 x0 x1 x2 x3 x4 x5).2.1
        (kernelRun0_A c i arg1 harg1 arg2 harg2 arg3 harg3 arg4 harg4 arg5 harg5 arg6 harg6 arg7 harg7 arg8 harg8 arg9 harg9 arg10 harg10 hc0 x0 x1 x2 x3 x4 x5).2.2.1) := by
  sl_kernel_rfl

end A

section B

variable (c : Dev nD) (i : grid0.Coords) (arg1 : Memref sig .tc .vmem S1536x4096 .i8) (harg1 : arg1.IsWhole) (arg2 : Memref sig .tc .vmem S3x16x512 .f32) (harg2 : arg2.IsWhole) (arg3 : Memref sig .tc .vmem S16x32x512 .i8) (harg3 : arg3.IsWhole) (arg4 : Memref sig .tc .vmem S16x64x512 .i8) (harg4 : arg4.IsWhole) (arg5 : Memref sig .tc .vmem S12x16x512 .i8) (harg5 : arg5.IsWhole) (arg6 : Memref sig .tc .vmem S16x512 .i16) (harg6 : arg6.IsWhole) (arg7 : Memref sig .tc .vmem S1536x512 .bf16) (harg7 : arg7.IsWhole) (arg8 : Memref sig .tc .vmem S1536x4096 .bf16) (harg8 : arg8.IsWhole) (arg9 : Memref sig .tc .vmem S4096x512 .bf16) (harg9 : arg9.IsWhole) (arg10 : Memref sig .tc .vmem S16x16x512 .f32) (harg10 : arg10.IsWhole) (hc0 : ¬cond0_0 i)
  (x0 : Vec F S1536x4096 .i8) (x1 : Vec F S3x16x512 .f32) (x2 : Vec F S16x32x512 .i8) (x3 : Vec F S16x64x512 .i8) (x4 : Vec F S12x16x512 .i8) (x5 : Vec F S16x512 .i16) (xs0 : Vec F S1536x4096 .bf16)

/-- The group scales' stores at a later point are the family's. -/
theorem gPieces_B : (kernelRun0_B c i arg1 harg1 arg2 harg2 arg3 harg3 arg4 harg4 arg5 harg5 arg6 harg6 arg7 harg7 arg8 harg8 arg9 harg9 arg10 harg10 hc0 x0 x1 x2 x3 x4 x5 xs0).2.2.2.val
    = (down 64).map (gPiece arg5 harg5 arg6 harg6 x4 x5) := by
  sl_kernel_rfl

/-- The weights' stores at a later point are the family's, over the group scales' stores. -/
theorem wPieces_B : (kernelRun0_B c i arg1 harg1 arg2 harg2 arg3 harg3 arg4 harg4 arg5 harg5 arg6 harg6 arg7 harg7 arg8 harg8 arg9 harg9 arg10 harg10 hc0 x0 x1 x2 x3 x4 x5 xs0).2.2.1
    = (down 1024).map (wPiece arg3 harg3 arg4 harg4 arg10 x2 x3
        (kernelRun0_B c i arg1 harg1 arg2 harg2 arg3 harg3 arg4 harg4 arg5 harg5 arg6 harg6 arg7 harg7 arg8 harg8 arg9 harg9 arg10 harg10 hc0 x0 x1 x2 x3 x4 x5 xs0).2.2.2.val) := by
  sl_kernel_rfl

/-- The output's stores at a later point are the family's, over the activations it finds and the weights' stores. -/
theorem yPieces_B : (kernelRun0_B c i arg1 harg1 arg2 harg2 arg3 harg3 arg4 harg4 arg5 harg5 arg6 harg6 arg7 harg7 arg8 harg8 arg9 harg9 arg10 harg10 hc0 x0 x1 x2 x3 x4 x5 xs0).1
    = (down 3).map (yPieceB arg8 harg8 arg9 xs0
        (kernelRun0_B c i arg1 harg1 arg2 harg2 arg3 harg3 arg4 harg4 arg5 harg5 arg6 harg6 arg7 harg7 arg8 harg8 arg9 harg9 arg10 harg10 hc0 x0 x1 x2 x3 x4 x5 xs0).2.2.1) := by
  sl_kernel_rfl

end B

end Cert.Pieces
-- ==== Proof.Payloads.lean ====
/- What the kernel stores, read at an index: each store's payload as a plain formula of what it loads. -/
module

public import proofs.«01_k».proof.Proof.Pieces
public import Idealize.ShloMosaic.Lib.BitcastFour
public import Idealize.ShloMosaic.Lib.Pipeline.Value
public import Idealize.ShloMosaic.Lib.MatmulPlain

@[expose] public section

set_option maxRecDepth 16384

noncomputable section

namespace Cert.Pieces

open Idealize.ShloMosaic Idealize.ShloMosaic.ValueIdx Idealize.ShloMosaic.TcCoe Idealize.SL.Sem
open Cert.KernelIdeal Cert.KernelIdeal.Gen Cert.Words

/-- A slab of one row of blocks, viewed without its unit axis. -/
theorem cast_drop {α : Type} {m n : Nat} (v : (⟨3, ![1, m, n]⟩ : Shape).Idx → α)
    (h : (⟨3, ![1, m, n]⟩ : Shape).ShapeCasts ⟨2, ![m, n]⟩) (r : Fin m) (l : Fin n) :
    shapeCast ⟨2, ![m, n]⟩ v h (ix2 r l) = v (ix3 (0 : Fin 1) r l) := by
  refine (shapeCast_dropUnit_apply ![m, n] v h (ix2 r l)).trans (congrArg v (funext fun a => ?_))
  match a with
  | ⟨0, _⟩ => rfl
  | ⟨1, _⟩ => rfl
  | ⟨2, _⟩ => rfl

/-- The other way about. -/
theorem cast_add {α : Type} {m n : Nat} (v : (⟨2, ![m, n]⟩ : Shape).Idx → α)
    (h : (⟨2, ![m, n]⟩ : Shape).ShapeCasts ⟨3, ![1, m, n]⟩) (r : Fin m) (l : Fin n) :
    shapeCast ⟨3, ![1, m, n]⟩ v h (ix3 (0 : Fin 1) r l) = v (ix2 r l) := by
  refine (shapeCast_addUnit_apply ![m, n] v h (ix3 (0 : Fin 1) r l)).trans (congrArg v (funext fun a => ?_))
  match a with
  | ⟨0, _⟩ => rfl
  | ⟨1, _⟩ => rfl

/-- The float16 scales, read by their bits at an index. -/
theorem decVec_at (v3 : Vec Ideal S16x128 .i16) (y : S16x128.Idx) :
    decVec (F := Ideal) v3 y = decOf ((v3 y).setWidth 32) := by
  have h : k0_pay61 (F := Ideal) v3 = extui 32 v3 natLt_16_32 := by
    unfold k0_pay61; dsimp only; rw [shapeCast_self]
  unfold decVec k0_pay64 k0_pay62 k0_pay63
  rw [h]
  rfl

/-- A group's scale at a row. -/
theorem gPay_at (i : Nat) (hi : i < 16) (v3 : Vec Ideal S16x128 .i16) (lo hi' : Vec Ideal S1x16x128 .i8) (r : Fin 16)
    (l : Fin 128) :
    gPay (F := Ideal) i v3 lo hi' (ix3 (0 : Fin 1) r l)
      = decOf ((v3 (ix2 r l)).setWidth 32)
        * (((scInt (lo (ix3 (0 : Fin 1) r l)) (hi' (ix3 (0 : Fin 1) r l)) i).toInt : ℝ) : EReal) := by
  unfold gPay
  refine (cast_add _ _ r l).trans ?_
  have e1 := cast_drop lo shapeCasts_S1x16x128_S16x128 r l
  have e2 := cast_drop hi' shapeCasts_S1x16x128_S16x128 r l
  have e3 := decVec_at v3 (ix2 r l)
  rw [← e3, ← e1, ← e2]
  generalize decVec (F := Ideal) v3 = d
  generalize shapeCast S16x128 lo shapeCasts_S1x16x128_S16x128 = lo'
  generalize shapeCast S16x128 hi' shapeCasts_S1x16x128_S16x128 = hi''
  show d (ix2 r l) * ((((subi (ori (andi (shrsi (extui 32 lo' natLt_8_32) (broadcast S16x128 (BitVec.ofNat 32 (4 * (i / 8))))) (broadcast S16x128 15#32))
    (shli (andi (shrsi (extui 32 hi'' natLt_8_32) (broadcast S16x128 (BitVec.ofNat 32 (2 * (i / 4))))) (broadcast S16x128 3#32))
      (broadcast S16x128 4#32))) (broadcast S16x128 32#32)) (ix2 r l)).toInt : ℝ) : EReal) = _
  refine congrArg (fun z : BitVec 32 => d (ix2 r l) * ((z.toInt : ℝ) : EReal)) ?_
  show IntOp.subi (IntOp.ori (IntOp.andi (IntOp.shrsi .vector ((lo' (ix2 r l)).setWidth 32) (BitVec.ofNat 32 (4 * (i / 8)))) 15#32)
    (IntOp.shli .vector (IntOp.andi (IntOp.shrsi .vector ((hi'' (ix2 r l)).setWidth 32) (BitVec.ofNat 32 (2 * (i / 4)))) 3#32) (BitVec.ofNat 32 4)))
    32#32 = _
  rw [shrsi_const _ _ _ (by omega), shrsi_const _ _ _ (by omega), shli_const _ _ _ (by omega)]
  rfl

/-- A packed word of four bytes of a column, by its bits. -/
theorem word_getLsbD (v : Vec Ideal S1x32x128 .i8) (a : Fin 8) (l : Fin 128) (r : Nat) (hr : r < 4) (q : Nat) (hq : q < 8) :
    (bitcast S8x128 32 (shapeCast S32x128 v shapeCasts_S1x32x128_S32x128) bitcasts_S32x128_w8_S8x128_w32 (ix2 a l)).getLsbD (8 * r + q)
      = (v (ix3 (0 : Fin 1) (⟨4 * a.val + r, by omega⟩ : Fin 32) l)).getLsbD q := by
  have h := bitcast_8_32_getLsbD_ix2 (R := 32) (r := 8) (n := 128) (shapeCast S32x128 v shapeCasts_S1x32x128_S32x128)
    bitcasts_S32x128_w8_S8x128_w32 a l (8 * r + q) (by omega) ⟨4 * a.val + r, by omega⟩ (by show _ = _; simp only; omega)
  refine h.trans ?_
  rw [show (8 * r + q) % 8 = q by omega]
  exact congrArg (fun z : BitVec 8 => z.getLsbD q) (cast_drop v shapeCasts_S1x32x128_S32x128 _ l)

/-- A byte of a column, cut back out of its packed words. -/
theorem byte_getLsbD (w : IVec S8x128 32) (p : Fin 32) (l : Fin 128) (q : Nat) (hq : q < 8) :
    (bitcast S32x128 8 w bitcasts_S8x128_w32_S32x128_w8 (ix2 p l)).getLsbD q
      = (w (ix2 (⟨p.val / 4, by omega⟩ : Fin 8) l)).getLsbD (8 * (p.val % 4) + q) := by
  rw [bitcast_getLsbD w bitcasts_S8x128_w32_S32x128_w8 (ix2 p l) q hq (by decide)]
  have hrow : S32x128.row (ix2 p l) = p.val := rfl
  have e : (S32x128.row (ix2 p l) * 8 + q) % 32 = 8 * (p.val % 4) + q := by rw [hrow]; omega
  rw [e]
  congr 2
  funext c
  match c with
  | ⟨0, _⟩ =>
    refine Fin.ext ((bitcasts_S8x128_w32_S32x128_w8.srcIdx_row _ _ _ ⟨0, Nat.zero_lt_two⟩ rfl).trans ?_)
    rw [hrow]; show (p.val * 8 + q) / 32 = p.val / 4; omega
  | ⟨1, _⟩ => exact Fin.ext (bitcasts_S8x128_w32_S32x128_w8.srcIdx_other _ _ _ ⟨1, Nat.one_lt_two⟩ (by show ¬ 1 + 2 = 2; omega))

/-- A quantized value at a row, as the kernel assembles it four bytes at a time. -/
theorem qPay_at (h j : Nat) (hh : h < 2) (hj : j < 4) (hm lo : Vec Ideal S1x32x128 .i8) (p : Fin 32) (l : Fin 128) :
    qPay (F := Ideal) h j hm lo (ix2 p l)
      = (((qInt (lo (ix3 (0 : Fin 1) p l)) (hm (ix3 (0 : Fin 1) p l)) h j).toInt : ℝ) : EReal) := by
  have hp := p.isLt
  set W : IVec S8x128 32 := fun y => uWord
    (bitcast S8x128 32 (shapeCast S32x128 lo shapeCasts_S1x32x128_S32x128) bitcasts_S32x128_w8_S8x128_w32 y)
    (bitcast S8x128 32 (shapeCast S32x128 hm shapeCasts_S1x32x128_S32x128) bitcasts_S32x128_w8_S8x128_w32 y) h j with hW
  have hq : qPay (F := Ideal) h j hm lo (ix2 p l)
      = (((bitcast S32x128 8 W bitcasts_S8x128_w32_S32x128_w8 (ix2 p l)).toInt : ℝ) : EReal) - Ideal.ofBits .bf16 0x4080#16 := by
    have hv : (ori (andi (shrui (bitcast S8x128 32 (shapeCast S32x128 lo shapeCasts_S1x32x128_S32x128) bitcasts_S32x128_w8_S8x128_w32)
        (broadcast S8x128 (BitVec.ofNat 32 (2 * j)))) (broadcast S8x128 50529027#32))
      (andi (hiVec (bitcast S8x128 32 (shapeCast S32x128 hm shapeCasts_S1x32x128_S32x128) bitcasts_S32x128_w8_S8x128_w32) (4 * h + j))
        (broadcast S8x128 67372036#32))) = W := by
      funext y
      rw [hW]
      show IntOp.ori _ (IntOp.andi (hiVec _ _ y) _) = _
      unfold hiVec uWord hiWord
      split <;> rfl
    unfold qPay
    rw [hv]
    rfl
  have hb : bitcast S32x128 8 W bitcasts_S8x128_w32_S32x128_w8 (ix2 p l)
      = uByte (lo (ix3 (0 : Fin 1) p l)) (hm (ix3 (0 : Fin 1) p l)) h j := by
    apply BitVec.eq_of_getLsbD_eq
    intro q hq
    rw [byte_getLsbD W p l q hq]
    have ep : (⟨4 * (p.val / 4) + p.val % 4, by omega⟩ : Fin 32) = p := Fin.ext (by show 4 * (p.val / 4) + p.val % 4 = p.val; omega)
    have wl := fun q hq => word_getLsbD lo ⟨p.val / 4, by omega⟩ l (p.val % 4) (by omega) q hq
    have wh := fun q hq => word_getLsbD hm ⟨p.val / 4, by omega⟩ l (p.val % 4) (by omega) q hq
    simp only [ep] at wl wh
    exact uWord_getLsbD _ _ _ _ (p.val % 4) (by omega) wl wh h j hh hj q hq
  rw [hq, hb, ← uByte_toInt _ _ h j hh hj]
  have h4 : Ideal.ofBits .bf16 0x4080#16 = ((4 : ℝ) : EReal) := by
    have e : Ideal.ofBits .bf16 0x4080#16 = Ideal.ieee 8 7 (0x4080#16) := by simp only [Ideal.ofBits]
    rw [e, ieee_eq]
    unfold ofFields
    norm_num
  rw [h4, ← EReal.coe_sub]
  push_cast
  rfl

/-- A weight at a row: the quantized value times its group's scale. -/
theorem wPay_at (h j l : Nat) (hh : h < 2) (hj : j < 4) (hl : l < 2) (hm lo : Vec Ideal S1x32x128 .i8)
    (g : Vec Ideal S1x1x128 .f32) (r : Fin 16) (c : Fin 128) :
    wPay (F := Ideal) h j l hl hm lo g (ix2 r c)
      = (((qInt (lo (ix3 (0 : Fin 1) (⟨16 * l + r.val, by omega⟩ : Fin 32) c))
          (hm (ix3 (0 : Fin 1) (⟨16 * l + r.val, by omega⟩ : Fin 32) c)) h j).toInt : ℝ) : EReal)
        * g (ix3 (0 : Fin 1) (0 : Fin 1) c) := by
  rw [← qPay_at h j hh hj hm lo ⟨16 * l + r.val, by omega⟩ c]
  unfold wPay
  rw [shapeCast_self, shapeCast_self]
  have e1 : extractStridedSlice S16x128 ![16 * l, 0] (qPay (F := Ideal) h j hm lo) (slicesQ l hl) (ix2 r c)
      = qPay (F := Ideal) h j hm lo (ix2 (⟨16 * l + r.val, by omega⟩ : Fin 32) c) :=
    extractStridedSlice_apply _ _ _ _ _ (fun a => by
      match a with
      | ⟨0, _⟩ => rfl
      | ⟨1, _⟩ => exact (Nat.zero_add c.val).symm)
  have e2 : broadcastTo S16x128 (shapeCast S1x128 g shapeCasts_S1x1x128_S1x128) broadcasts_S1x128_S16x128 (ix2 r c)
      = g (ix3 (0 : Fin 1) (0 : Fin 1) c) :=
    (broadcastTo_apply _ _ _ (ix2 (0 : Fin 1) c) (fun a => by
      match a with
      | ⟨0, _⟩ => rfl
      | ⟨1, _⟩ => rfl)).trans (cast_drop g shapeCasts_S1x1x128_S1x128 0 c)
  show _ * _ = _
  rw [e1]
  exact congrArg _ e2

/-- A scaled activation at a row. -/
theorem xPay_at (b : Nat) (hb : b < 16) (xs : Vec Ideal S1x16x512 .f32) (xq : Vec Ideal S512x256 .i8) (r : Fin 512)
    (k : Fin 256) :
    xPay (F := Ideal) b hb xs xq (ix2 r k)
      = (((xq (ix2 r k)).toInt : ℝ) : EReal) * xs (ix3 (0 : Fin 1) (⟨b, hb⟩ : Fin 16) r) := by
  unfold xPay
  rw [shapeCast_self, shapeCast_self]
  have e1 : broadcastTo S512x256 (extractStridedSlice S512x1 ![0, b] (k0_pay2 (F := Ideal) xs) (slicesX b hb)) broadcasts_S512x1_S512x256 (ix2 r k)
      = k0_pay2 (F := Ideal) xs (ix2 r (⟨b, hb⟩ : Fin 16)) :=
    (broadcastTo_apply _ _ _ (ix2 r (0 : Fin 1)) (fun a => by
      match a with
      | ⟨0, _⟩ => rfl
      | ⟨1, _⟩ => rfl)).trans (extractStridedSlice_apply _ _ _ _ _ (fun a => by
      match a with
      | ⟨0, _⟩ => exact (Nat.zero_add r.val).symm
      | ⟨1, _⟩ => rfl))
  have e2 : k0_pay2 (F := Ideal) xs (ix2 r (⟨b, hb⟩ : Fin 16)) = xs (ix3 (0 : Fin 1) (⟨b, hb⟩ : Fin 16) r) :=
    (transpose_apply [1, 0] _ transposes_S16x512_p1_0_S512x16 (ix2 r (⟨b, hb⟩ : Fin 16)) (ix2 (⟨b, hb⟩ : Fin 16) r) (fun a => by
      match a with
      | ⟨0, _⟩ => rfl
      | ⟨1, _⟩ => rfl)).trans (cast_drop xs shapeCasts_S1x16x512_S16x512 _ r)
  show _ * _ = _
  rw [e1, e2]
  rfl

/-- A tile of the output: rows of activations times the weights. -/
theorem yPay_at (x : Vec Ideal S512x4096 .bf16) (w : Vec Ideal S4096x512 .bf16) (r o : Fin 512) :
    k0_pay1 (F := Ideal) x w (ix2 r o) = ∑ k : Fin 4096, x (ix2 r k) * w (ix2 k o) := by
  have h := Ideal.matmul_plain_apply (M := 512) (K := 4096) (N := 512) (φ₁ := .bf16) (φ₂ := .bf16) none x w
    (constant (F := Ideal) S512x512 .f32 0x00000000#32) r o
  refine Eq.trans ?_ (h.trans ?_)
  · unfold k0_pay1
    rfl
  · rw [show constant (F := Ideal) S512x512 .f32 0x00000000#32 (ix2 r o) = Ideal.ofBits .f32 0x00000000#32 from rfl,
      Ideal.ofBits_zero_f32, zero_add]

end Cert.Pieces
-- ==== Proof.Buffers.lean ====
/- What the kernel's buffers hold, index by index, once its stores are done. -/
module

public import proofs.«01_k».proof.Proof.Payloads
public import Idealize.ShloMosaic.Lib.Pipeline.ValueKit.Tiles

@[expose] public section

set_option maxRecDepth 16384

noncomputable section

namespace Cert.Pieces

open Idealize.ShloMosaic Idealize.ShloMosaic.ValueIdx Idealize.ShloMosaic.TcCoe Idealize.SL.Sem
open Cert.KernelIdeal Cert.KernelIdeal.Gen Cert.Words

/-- A family of stores that each write one function's values leaves that function's value wherever one of them writes. -/
theorem canon_down {S : Shape} {e : EltTy} (G : S.Idx → Elt Ideal e) (N : Nat) (P : Nat → View.Piece (Elt Ideal) S e)
    (hP : ∀ n, n < N → ∀ x : (P n).1.shape.Idx, (P n).2 x = G ((P n).1.emb x)) (y : S.Idx) (n : Nat) (hn : n < N)
    (hy : y ∈ (P n).1.set) : View.canon ((down N).map P) y = G y := by
  refine View.canon_apply_of_pieces G _ (fun p hp x => ?_) y ⟨P n, List.mem_map_of_mem (mem_down.2 hn), hy⟩
  obtain ⟨k, hk, rfl⟩ := List.mem_map.1 hp
  exact hP k (mem_down.1 hk) x

/-- A load from an argument's buffer reads the argument. -/
theorem load_at {s : Shape} {e : EltTy} (m : Memref sig .tc .vmem s e) (h : m.IsWhole) (X : Vec Ideal s e)
    (off size : Fin s.rank → Nat) (inb) (j : (Rect.unit off size inb).shape.Idx) (k : s.Idx)
    (hk : ∀ a, (k a).val = off a + (j a).val) :
    View.readAt (Elt Ideal) m.view (Rect.unit off size inb).toLoadRect (h.unread X) j = X k := by
  rw [View.readAt_apply, h.read_unread]
  refine congrArg X (funext fun a => Fin.ext ?_)
  rw [hk a]
  exact Rect.idx_unit_val off size inb j a

/-- A load from a buffer of stores reads what they leave. -/
theorem loadCov_at {s : Shape} {e : EltTy} (m : Memref sig .tc .vmem s e) (L : List (View.Piece (Elt Ideal) s e))
    (off size : Fin s.rank → Nat) (inb) (j : (Rect.unit off size inb).shape.Idx) (k : s.Idx)
    (hk : ∀ a, (k a).val = off a + (j a).val) :
    m.view.readCov L (Rect.unit off size inb).toLoadRect j = View.canon L k := by
  rw [View.readCov_eq_canon']
  refine congrArg (View.canon L) (funext fun a => Fin.ext ?_)
  rw [hk a]
  exact Rect.idx_unit_val off size inb j a

/-- Where an index of a rectangle lies in the buffer. -/
theorem emb_unit {s : Shape} (off size : Fin s.rank → Nat) (inb) (x : (Rect.unit off size inb).shape.Idx) (k : s.Idx)
    (hk : ∀ a, off a + (x a).val = (k a).val) : (Rect.unit off size inb).emb x = k :=
  funext fun a => Fin.ext ((Rect.idx_unit_val off size inb x a).trans (hk a))

/-- An index whose coordinates lie in a rectangle's ranges lies in the rectangle. -/
theorem in_unit {s : Shape} (off size : Fin s.rank → Nat) (inb) (y : s.Idx)
    (h : ∀ a, off a ≤ (y a).val ∧ (y a).val < off a + size a) : y ∈ (Rect.unit off size inb).set :=
  Rect.mem_set_unit.2 h

/-- A group's scale at a row: the float16 scale times the signed six bits. -/
def gAt (x4 : Vec Ideal S12x16x512 .i8) (x5 : Vec Ideal S16x512 .i16) (i b : Fin 16) (o : Fin 512) : EReal :=
  decOf ((x5 (ix2 b o)).setWidth 32)
    * (((scInt (x4 (ix3 (⟨i.val % 8, by omega⟩ : Fin 12) b o)) (x4 (ix3 (⟨8 + i.val % 4, by omega⟩ : Fin 12) b o)) i.val).toInt : ℝ) : EReal)

/-- The group scales' buffer. -/
theorem gBuf (arg5 : Memref sig .tc .vmem S12x16x512 .i8) (harg5 : arg5.IsWhole) (arg6 : Memref sig .tc .vmem S16x512 .i16)
    (harg6 : arg6.IsWhole) (x4 : Vec Ideal S12x16x512 .i8) (x5 : Vec Ideal S16x512 .i16) (i b : Fin 16) (o : Fin 512) :
    View.canon ((down 64).map (gPiece arg5 harg5 arg6 harg6 x4 x5)) (ix3 i b o) = gAt x4 x5 i b o := by
  have hi := i.isLt
  have hb := b.isLt
  have ho := o.isLt
  refine canon_down (e := .f32) (fun y : S16x16x512.Idx => gAt x4 x5 (y 0) (y 1) (y 2)) 64 _ (fun n hn x => ?_) (ix3 i b o)
    (o.val / 128 * 16 + i.val) (by omega) ?_
  · obtain ⟨r, l, rfl⟩ : ∃ (r : Fin 16) (l : Fin 128), x = ix3 (0 : Fin 1) r l :=
      ⟨x 1, x 2, funext fun a => by
        match a with
        | ⟨0, _⟩ => exact Fin.ext (by have h : (x 0).val < 1 := (x 0).isLt; show (x 0).val = 0; omega)
        | ⟨1, _⟩ => rfl
        | ⟨2, _⟩ => rfl⟩
    have hr := r.isLt
    have hl := l.isLt
    have ho' : n / 16 % 4 * 128 + l.val < 512 := by omega
    refine (gPay_at (n % 16) (by omega) _ _ _ r l).trans ?_
    have e5 := load_at arg6 harg6 x5 ![0, n / 16 % 4 * 128] S16x128.size (inbD _ (by omega)) (ix2 r l)
      (ix2 r ⟨n / 16 % 4 * 128 + l.val, ho'⟩) (fun a => by
        match a with
        | ⟨0, _⟩ => exact (Nat.zero_add r.val).symm
        | ⟨1, _⟩ => rfl)
    have e4 := fun (q : Nat) (hq : q < 12) => load_at arg5 harg5 x4 ![q, 0, n / 16 % 4 * 128] S1x16x128.size
      (inbS q _ hq (by omega)) (ix3 (0 : Fin 1) r l)
      (ix3 (⟨q, hq⟩ : Fin 12) r ⟨n / 16 % 4 * 128 + l.val, ho'⟩) (fun a => by
        match a with
        | ⟨0, _⟩ => rfl
        | ⟨1, _⟩ => exact (Nat.zero_add r.val).symm
        | ⟨2, _⟩ => rfl)
    rw [e5, e4 (n % 16 % 8) (by omega), e4 (8 + n % 16 % 4) (by omega)]
    have ex : (gPiece arg5 harg5 arg6 harg6 x4 x5 n).1.emb (ix3 (0 : Fin 1) r l)
        = ix3 (⟨n % 16, by omega⟩ : Fin 16) r (⟨n / 16 % 4 * 128 + l.val, ho'⟩ : Fin 512) :=
      emb_unit _ _ (inbG (n % 16) (n / 16 % 4) (by omega) (by omega)) _ _ (fun a => by
        match a with
        | ⟨0, _⟩ => rfl
        | ⟨1, _⟩ => exact Nat.zero_add r.val
        | ⟨2, _⟩ => rfl)
    show _ = (fun y : S16x16x512.Idx => gAt x4 x5 (y 0) (y 1) (y 2)) _
    rw [ex]
    rfl
  · refine in_unit _ _ (inbG _ _ (by omega) (by omega)) _ fun a => ?_
    match a with
    | ⟨0, _⟩ => show (o.val / 128 * 16 + i.val) % 16 ≤ i.val ∧ i.val < (o.val / 128 * 16 + i.val) % 16 + 1; omega
    | ⟨1, _⟩ => show 0 ≤ b.val ∧ b.val < 0 + 16; omega
    | ⟨2, _⟩ => show (o.val / 128 * 16 + i.val) / 16 % 4 * 128 ≤ o.val ∧ o.val < (o.val / 128 * 16 + i.val) / 16 % 4 * 128 + 128; omega

/-- A dequantized weight of the tile: the signed quantized value times its group's scale. -/
def wAt (x2 : Vec Ideal S16x32x512 .i8) (x3 : Vec Ideal S16x64x512 .i8) (x4 : Vec Ideal S12x16x512 .i8)
    (x5 : Vec Ideal S16x512 .i16) (k : Fin 4096) (o : Fin 512) : EReal :=
  (((qInt (x3 (ix3 (⟨k.val / 256, by omega⟩ : Fin 16) (⟨32 * (k.val / 128 % 2) + k.val % 32, by omega⟩ : Fin 64) o))
      (x2 (ix3 (⟨k.val / 256, by omega⟩ : Fin 16) (⟨k.val % 32, by omega⟩ : Fin 32) o))
      (k.val / 128 % 2) (k.val / 32 % 4)).toInt : ℝ) : EReal)
    * gAt x4 x5 (⟨k.val / 16 % 16, by omega⟩) (⟨k.val / 256, by omega⟩) o

/-- The weights' buffer. -/
theorem wBuf (arg3 : Memref sig .tc .vmem S16x32x512 .i8) (harg3 : arg3.IsWhole) (arg4 : Memref sig .tc .vmem S16x64x512 .i8)
    (harg4 : arg4.IsWhole) (arg10 : Memref sig .tc .vmem S16x16x512 .f32) (x2 : Vec Ideal S16x32x512 .i8)
    (x3 : Vec Ideal S16x64x512 .i8) (x4 : Vec Ideal S12x16x512 .i8) (x5 : Vec Ideal S16x512 .i16)
    (G : List (View.Piece (Elt Ideal) S16x16x512 .f32))
    (hG : ∀ (i b : Fin 16) (o : Fin 512), View.canon G (ix3 i b o) = gAt x4 x5 i b o) (k : Fin 4096) (o : Fin 512) :
    View.canon ((down 1024).map (wPiece arg3 harg3 arg4 harg4 arg10 x2 x3 G)) (ix2 k o) = wAt x2 x3 x4 x5 k o := by
  have hk := k.isLt
  have ho := o.isLt
  refine canon_down (e := .bf16) (fun y : S4096x512.Idx => wAt x2 x3 x4 x5 (y 0) (y 1)) 1024 _ (fun n hn x => ?_) (ix2 k o)
    (k.val / 256 * 64 + o.val / 128 * 16 + k.val / 16 % 16) (by omega) ?_
  · obtain ⟨r, l, rfl⟩ : ∃ (r : Fin 16) (l : Fin 128), x = ix2 r l :=
      ⟨x 0, x 1, funext fun a => by
        match a with
        | ⟨0, _⟩ => rfl
        | ⟨1, _⟩ => rfl⟩
    have hr := r.isLt
    have hl := l.isLt
    have ho' : n / 16 % 4 * 128 + l.val < 512 := by omega
    have hk' : (n / 64 % 16 * 16 + n % 16) * 16 + r.val < 4096 := by omega
    refine (wPay_at (n / 8 % 2) (n / 2 % 4) (n % 2) (by omega) (by omega) (by omega) _ _ _ r l).trans ?_
    have hp : 16 * (n % 2) + r.val < 32 := by omega
    have e2 := load_at arg3 harg3 x2 ![n / 64 % 16, 0, n / 16 % 4 * 128] S1x32x128.size (inbH _ _ (by omega) (by omega))
      (ix3 (0 : Fin 1) (⟨16 * (n % 2) + r.val, hp⟩ : Fin 32) l)
      (ix3 (⟨n / 64 % 16, by omega⟩ : Fin 16) (⟨16 * (n % 2) + r.val, hp⟩ : Fin 32) (⟨n / 16 % 4 * 128 + l.val, ho'⟩ : Fin 512)) (fun a => by
        match a with
        | ⟨0, _⟩ => rfl
        | ⟨1, _⟩ => exact (Nat.zero_add _).symm
        | ⟨2, _⟩ => rfl)
    have e3 := load_at arg4 harg4 x3 ![n / 64 % 16, 32 * (n / 8 % 2), n / 16 % 4 * 128] S1x32x128.size (inbQ _ _ _ (by omega) (by omega) (by omega))
      (ix3 (0 : Fin 1) (⟨16 * (n % 2) + r.val, hp⟩ : Fin 32) l)
      (ix3 (⟨n / 64 % 16, by omega⟩ : Fin 16) (⟨32 * (n / 8 % 2) + (16 * (n % 2) + r.val), by omega⟩ : Fin 64) (⟨n / 16 % 4 * 128 + l.val, ho'⟩ : Fin 512)) (fun a => by
        match a with
        | ⟨0, _⟩ => rfl
        | ⟨1, _⟩ => rfl
        | ⟨2, _⟩ => rfl)
    have eg := (loadCov_at arg10 G ![n % 16, n / 64 % 16, n / 16 % 4 * 128] S1x1x128.size (inbR _ _ _ (by omega) (by omega) (by omega))
      (ix3 (0 : Fin 1) (0 : Fin 1) l)
      (ix3 (⟨n % 16, by omega⟩ : Fin 16) (⟨n / 64 % 16, by omega⟩ : Fin 16) (⟨n / 16 % 4 * 128 + l.val, ho'⟩ : Fin 512)) (fun a => by
        match a with
        | ⟨0, _⟩ => rfl
        | ⟨1, _⟩ => rfl
        | ⟨2, _⟩ => rfl)).trans (hG _ _ _)
    rw [e2, e3, eg]
    have ex : (wPiece arg3 harg3 arg4 harg4 arg10 x2 x3 G n).1.emb (ix2 r l)
        = ix2 (⟨(n / 64 % 16 * 16 + n % 16) * 16 + r.val, hk'⟩ : Fin 4096) (⟨n / 16 % 4 * 128 + l.val, ho'⟩ : Fin 512) :=
      emb_unit _ _ (inbW (n / 64 % 16 * 16 + n % 16) (n / 16 % 4) (by omega) (by omega)) _ _ (fun a => by
        match a with
        | ⟨0, _⟩ => rfl
        | ⟨1, _⟩ => rfl)
    show _ = (fun y : S4096x512.Idx => wAt x2 x3 x4 x5 (y 0) (y 1)) _
    rw [ex]
    show _ = wAt x2 x3 x4 x5 (⟨(n / 64 % 16 * 16 + n % 16) * 16 + r.val, hk'⟩ : Fin 4096) (⟨n / 16 % 4 * 128 + l.val, ho'⟩ : Fin 512)
    unfold wAt
    have f1 : ((n / 64 % 16 * 16 + n % 16) * 16 + r.val) / 256 = n / 64 % 16 := by omega
    have f2 : ((n / 64 % 16 * 16 + n % 16) * 16 + r.val) % 32 = 16 * (n % 2) + r.val := by omega
    have f3 : ((n / 64 % 16 * 16 + n % 16) * 16 + r.val) / 128 % 2 = n / 8 % 2 := by omega
    have f4 : ((n / 64 % 16 * 16 + n % 16) * 16 + r.val) / 32 % 4 = n / 2 % 4 := by omega
    have f5 : ((n / 64 % 16 * 16 + n % 16) * 16 + r.val) / 16 % 16 = n % 16 := by omega
    simp only [f1, f2, f3, f4, f5]
  · refine in_unit _ _ (inbW _ _ (by omega) (by omega)) _ fun a => ?_
    match a with
    | ⟨0, _⟩ =>
      show ((k.val / 256 * 64 + o.val / 128 * 16 + k.val / 16 % 16) / 64 % 16 * 16 + (k.val / 256 * 64 + o.val / 128 * 16 + k.val / 16 % 16) % 16) * 16 ≤ k.val
        ∧ k.val < ((k.val / 256 * 64 + o.val / 128 * 16 + k.val / 16 % 16) / 64 % 16 * 16 + (k.val / 256 * 64 + o.val / 128 * 16 + k.val / 16 % 16) % 16) * 16 + 16
      omega
    | ⟨1, _⟩ =>
      show (k.val / 256 * 64 + o.val / 128 * 16 + k.val / 16 % 16) / 16 % 4 * 128 ≤ o.val
        ∧ o.val < (k.val / 256 * 64 + o.val / 128 * 16 + k.val / 16 % 16) / 16 % 4 * 128 + 128
      omega

/-- A scaled activation. -/
def xAt (x0 : Vec Ideal S1536x4096 .i8) (x1 : Vec Ideal S3x16x512 .f32) (r : Fin 1536) (k : Fin 4096) : EReal :=
  (((x0 (ix2 r k)).toInt : ℝ) : EReal)
    * x1 (ix3 (⟨r.val / 512, by omega⟩ : Fin 3) (⟨k.val / 256, by omega⟩ : Fin 16) (⟨r.val % 512, by omega⟩ : Fin 512))

/-- The activations' buffer, after the first point. -/
theorem xBuf (arg1 : Memref sig .tc .vmem S1536x4096 .i8) (harg1 : arg1.IsWhole) (arg2 : Memref sig .tc .vmem S3x16x512 .f32)
    (harg2 : arg2.IsWhole) (x0 : Vec Ideal S1536x4096 .i8) (x1 : Vec Ideal S3x16x512 .f32) (r : Fin 1536) (k : Fin 4096) :
    View.canon ((down 48).map (xPiece arg1 harg1 arg2 harg2 x0 x1)) (ix2 r k) = xAt x0 x1 r k := by
  have hr := r.isLt
  have hk := k.isLt
  refine canon_down (e := .bf16) (fun y : S1536x4096.Idx => xAt x0 x1 (y 0) (y 1)) 48 _ (fun n hn x => ?_) (ix2 r k)
    (r.val / 512 * 16 + k.val / 256) (by omega) ?_
  · obtain ⟨q, l, rfl⟩ : ∃ (q : Fin 512) (l : Fin 256), x = ix2 q l :=
      ⟨x 0, x 1, funext fun a => by
        match a with
        | ⟨0, _⟩ => rfl
        | ⟨1, _⟩ => rfl⟩
    have hq := q.isLt
    have hl := l.isLt
    have hr' : n / 16 % 3 * 512 + q.val < 1536 := by omega
    have hk' : n % 16 * 256 + l.val < 4096 := by omega
    refine (xPay_at (n % 16) (by omega) _ _ q l).trans ?_
    have e0 := load_at arg1 harg1 x0 ![n / 16 % 3 * 512, n % 16 * 256] S512x256.size (inbX _ _ (by omega) (by omega)) (ix2 q l)
      (ix2 (⟨n / 16 % 3 * 512 + q.val, hr'⟩ : Fin 1536) (⟨n % 16 * 256 + l.val, hk'⟩ : Fin 4096)) (fun a => by
        match a with
        | ⟨0, _⟩ => rfl
        | ⟨1, _⟩ => rfl)
    have e1 := load_at arg2 harg2 x1 ![n / 16 % 3, 0, 0] S1x16x512.size (inbXs _ (by omega))
      (ix3 (0 : Fin 1) (⟨n % 16, by omega⟩ : Fin 16) q)
      (ix3 (⟨n / 16 % 3, by omega⟩ : Fin 3) (⟨n % 16, by omega⟩ : Fin 16) q) (fun a => by
        match a with
        | ⟨0, _⟩ => rfl
        | ⟨1, _⟩ => exact (Nat.zero_add _).symm
        | ⟨2, _⟩ => exact (Nat.zero_add _).symm)
    rw [e0, e1]
    have ex : (xPiece arg1 harg1 arg2 harg2 x0 x1 n).1.emb (ix2 q l)
        = ix2 (⟨n / 16 % 3 * 512 + q.val, hr'⟩ : Fin 1536) (⟨n % 16 * 256 + l.val, hk'⟩ : Fin 4096) :=
      emb_unit _ _ (inbX (n / 16 % 3) (n % 16) (by omega) (by omega)) _ _ (fun a => by
        match a with
        | ⟨0, _⟩ => rfl
        | ⟨1, _⟩ => rfl)
    show _ = (fun y : S1536x4096.Idx => xAt x0 x1 (y 0) (y 1)) _
    rw [ex]
    show _ = xAt x0 x1 (⟨n / 16 % 3 * 512 + q.val, hr'⟩ : Fin 1536) (⟨n % 16 * 256 + l.val, hk'⟩ : Fin 4096)
    unfold xAt
    have f1 : (n / 16 % 3 * 512 + q.val) / 512 = n / 16 % 3 := by omega
    have f2 : (n / 16 % 3 * 512 + q.val) % 512 = q.val := by omega
    have f3 : (n % 16 * 256 + l.val) / 256 = n % 16 := by omega
    simp only [f1, f2, f3]
  · refine in_unit _ _ (inbX _ _ (by omega) (by omega)) _ fun a => ?_
    match a with
    | ⟨0, _⟩ =>
      show (r.val / 512 * 16 + k.val / 256) / 16 % 3 * 512 ≤ r.val ∧ r.val < (r.val / 512 * 16 + k.val / 256) / 16 % 3 * 512 + 512
      omega
    | ⟨1, _⟩ =>
      show (r.val / 512 * 16 + k.val / 256) % 16 * 256 ≤ k.val ∧ k.val < (r.val / 512 * 16 + k.val / 256) % 16 * 256 + 256
      omega

/-- A family of tile products of one array of activations and the weights leaves the whole product. -/
theorem yBuf (P : Nat → View.Piece (Elt Ideal) S1536x512 .bf16) (X : Fin 1536 → Fin 4096 → EReal) (W : Fin 4096 → Fin 512 → EReal)
    (pay : Nat → Vec Ideal S512x512 .bf16)
    (hP : ∀ n, P n = ⟨Rect.unit ![n % 3 * 512, 0] S512x512.size (inbY _ (by omega)), pay n⟩)
    (hp : ∀ n (q o : Fin 512), pay n (ix2 q o) = ∑ k : Fin 4096, X (⟨n % 3 * 512 + q.val, by omega⟩) k * W k o)
    (r : Fin 1536) (o : Fin 512) :
    View.canon ((down 3).map P) (ix2 r o) = ∑ k : Fin 4096, X r k * W k o := by
  have hr := r.isLt
  have ho := o.isLt
  obtain rfl : P = fun n => ⟨Rect.unit ![n % 3 * 512, 0] S512x512.size (inbY _ (by omega)), pay n⟩ := funext hP
  refine canon_down (e := .bf16) (fun y : S1536x512.Idx => ∑ k : Fin 4096, X (y 0) k * W k (y 1)) 3 _ (fun n hn x => ?_) (ix2 r o)
    (r.val / 512) (by omega) ?_
  · obtain ⟨q, l, rfl⟩ : ∃ (q l : Fin 512), x = ix2 q l :=
      ⟨x 0, x 1, funext fun a => by
        match a with
        | ⟨0, _⟩ => rfl
        | ⟨1, _⟩ => rfl⟩
    have hq := q.isLt
    refine (hp n q l).trans ?_
    have ex : (Rect.unit (s := S1536x512) ![n % 3 * 512, 0] S512x512.size (inbY _ (by omega))).emb (ix2 q l)
        = ix2 (⟨n % 3 * 512 + q.val, by omega⟩ : Fin 1536) l :=
      emb_unit _ _ (inbY (n % 3) (by omega)) _ _ (fun a => by
        match a with
        | ⟨0, _⟩ => rfl
        | ⟨1, _⟩ => exact Nat.zero_add l.val)
    show _ = (fun y : S1536x512.Idx => ∑ k : Fin 4096, X (y 0) k * W k (y 1)) _
    rw [ex]
  · refine in_unit _ _ (inbY _ (by omega)) _ fun a => ?_
    match a with
    | ⟨0, _⟩ => show r.val / 512 % 3 * 512 ≤ r.val ∧ r.val < r.val / 512 % 3 * 512 + 512; omega
    | ⟨1, _⟩ => show 0 ≤ o.val ∧ o.val < 0 + 512; omega

end Cert.Pieces
-- ==== Proof.Points.lean ====
/- What one grid point leaves in the output block and in the activations' buffer, and so what the whole run does. -/
module

public import proofs.«01_k».proof.Proof.Buffers
public import proofs.«01_k».proof.Proof.Gen.KernelIdeal.Value

@[expose] public section

set_option maxRecDepth 16384

noncomputable section

namespace Cert.Pieces

open Idealize.ShloMosaic Idealize.ShloMosaic.ValueIdx Idealize.ShloMosaic.TcCoe Idealize.SL.Sem
open Cert.KernelIdeal Cert.KernelIdeal.Gen Cert.Words

section Cases

variable (c : Dev nD) (i : grid0.Coords) (arg1 : Memref sig .tc .vmem S1536x4096 .i8) (harg1 : arg1.IsWhole) (arg2 : Memref sig .tc .vmem S3x16x512 .f32) (harg2 : arg2.IsWhole) (arg3 : Memref sig .tc .vmem S16x32x512 .i8) (harg3 : arg3.IsWhole) (arg4 : Memref sig .tc .vmem S16x64x512 .i8) (harg4 : arg4.IsWhole) (arg5 : Memref sig .tc .vmem S12x16x512 .i8) (harg5 : arg5.IsWhole) (arg6 : Memref sig .tc .vmem S16x512 .i16) (harg6 : arg6.IsWhole) (arg7 : Memref sig .tc .vmem S1536x512 .bf16) (harg7 : arg7.IsWhole) (arg8 : Memref sig .tc .vmem S1536x4096 .bf16) (harg8 : arg8.IsWhole) (arg9 : Memref sig .tc .vmem S4096x512 .bf16) (harg9 : arg9.IsWhole) (arg10 : Memref sig .tc .vmem S16x16x512 .f32) (harg10 : arg10.IsWhole)
  (x0 : Vec Ideal S1536x4096 .i8) (x1 : Vec Ideal S3x16x512 .f32) (x2 : Vec Ideal S16x32x512 .i8) (x3 : Vec Ideal S16x64x512 .i8) (x4 : Vec Ideal S12x16x512 .i8) (x5 : Vec Ideal S16x512 .i16)

/-- The weights' buffer at the first point. -/
theorem wBuf_A (hc0 : cond0_0 i) (k : Fin 4096) (o : Fin 512) :
    View.canon (kernelRun0_A (F := Ideal) c i arg1 harg1 arg2 harg2 arg3 harg3 arg4 harg4 arg5 harg5 arg6 harg6 arg7 harg7 arg8 harg8 arg9 harg9 arg10 harg10 hc0 x0 x1 x2 x3 x4 x5).2.2.1 (ix2 k o) = wAt x2 x3 x4 x5 k o := by
  rw [wPieces_A]
  refine wBuf _ _ _ _ _ _ _ _ _ _ (fun i b o => ?_) k o
  rw [gPieces_A]
  exact gBuf _ _ _ _ _ _ i b o

/-- The weights' buffer at a later point. -/
theorem wBuf_B (hc0 : ¬cond0_0 i) (xs0 : Vec Ideal S1536x4096 .bf16) (k : Fin 4096) (o : Fin 512) :
    View.canon (kernelRun0_B (F := Ideal) c i arg1 harg1 arg2 harg2 arg3 harg3 arg4 harg4 arg5 harg5 arg6 harg6 arg7 harg7 arg8 harg8 arg9 harg9 arg10 harg10 hc0 x0 x1 x2 x3 x4 x5 xs0).2.2.1 (ix2 k o) = wAt x2 x3 x4 x5 k o := by
  rw [wPieces_B]
  refine wBuf _ _ _ _ _ _ _ _ _ _ (fun i b o => ?_) k o
  rw [gPieces_B]
  exact gBuf _ _ _ _ _ _ i b o

/-- The activations' buffer at the first point. -/
theorem xBuf_A (hc0 : cond0_0 i) (r : Fin 1536) (k : Fin 4096) :
    View.canon (kernelRun0_A (F := Ideal) c i arg1 harg1 arg2 harg2 arg3 harg3 arg4 harg4 arg5 harg5 arg6 harg6 arg7 harg7 arg8 harg8 arg9 harg9 arg10 harg10 hc0 x0 x1 x2 x3 x4 x5).2.1 (ix2 r k) = xAt x0 x1 r k := by
  rw [xPieces_A]
  exact xBuf _ _ _ _ _ _ r k

/-- The first point leaves the scaled activations in the buffer it carries. -/
theorem sout_A (hc0 : cond0_0 i) (r : Fin 1536) (k : Fin 4096) :
    sout0_A_0 (F := Ideal) c i arg1 harg1 arg2 harg2 arg3 harg3 arg4 harg4 arg5 harg5 arg6 harg6 arg7 harg7 arg8 harg8 arg9 harg9 arg10 harg10 hc0 x0 x1 x2 x3 x4 x5 (ix2 r k) = xAt x0 x1 r k := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  exact xBuf_A c i arg1 harg1 arg2 harg2 arg3 harg3 arg4 harg4 arg5 harg5 arg6 harg6 arg7 harg7 arg8 harg8 arg9 harg9 arg10 harg10 x0 x1 x2 x3 x4 x5 hc0 r k

/-- Rows of an activations' buffer at a place in a block of rows. -/
theorem rows_at (n : Nat) (q : Fin 512) (k : Fin 4096) (a : Fin 2) :
    (ix2 (⟨n % 3 * 512 + q.val, by omega⟩ : Fin 1536) k a).val = ![n % 3 * 512, 0] a + (ix2 q k a).val := by
  match a with
  | ⟨0, _⟩ => rfl
  | ⟨1, _⟩ => exact (Nat.zero_add _).symm

/-- The whole weights' buffer read whole. -/
theorem whole_at (k : Fin 4096) (o : Fin 512) (a : Fin 2) :
    (ix2 k o a).val = ![0, 0] a + (ix2 k o a).val := by
  match a with
  | ⟨0, _⟩ => exact (Nat.zero_add _).symm
  | ⟨1, _⟩ => exact (Nat.zero_add _).symm

/-- The output block of the first point: the scaled activations times the tile's weights. -/
theorem out_A (hc0 : cond0_0 i) (r : Fin 1536) (o : Fin 512) :
    out0_A_6 (F := Ideal) c i arg1 harg1 arg2 harg2 arg3 harg3 arg4 harg4 arg5 harg5 arg6 harg6 arg7 harg7 arg8 harg8 arg9 harg9 arg10 harg10 hc0 x0 x1 x2 x3 x4 x5 (ix2 r o) = ∑ k : Fin 4096, xAt x0 x1 r k * wAt x2 x3 x4 x5 k o := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5), yPieces_A]
  refine yBuf _ (xAt x0 x1) (wAt x2 x3 x4 x5) _ (fun n => rfl) (fun n q o => ?_) r o
  refine (yPay_at _ _ q o).trans (Finset.sum_congr rfl fun k _ => ?_)
  exact congrArg₂ (fun a b : EReal => a * b)
    ((loadCov_at arg8 _ _ _ (inbXr (n % 3) (by omega)) (ix2 q k) (ix2 (⟨n % 3 * 512 + q.val, by omega⟩ : Fin 1536) k) (rows_at n q k)).trans
      (xBuf_A c i arg1 harg1 arg2 harg2 arg3 harg3 arg4 harg4 arg5 harg5 arg6 harg6 arg7 harg7 arg8 harg8 arg9 harg9 arg10 harg10 x0 x1 x2 x3 x4 x5 hc0 _ k))
    ((loadCov_at arg9 _ _ _ inb_S4096x512_S4096x512_0_0 (ix2 k o) (ix2 k o) (whole_at k o)).trans
      (wBuf_A c i arg1 harg1 arg2 harg2 arg3 harg3 arg4 harg4 arg5 harg5 arg6 harg6 arg7 harg7 arg8 harg8 arg9 harg9 arg10 harg10 x0 x1 x2 x3 x4 x5 hc0 k o))

/-- The output block of a later point: the activations it finds times the tile's weights. -/
theorem out_B (hc0 : ¬cond0_0 i) (xs0 : Vec Ideal S1536x4096 .bf16) (r : Fin 1536) (o : Fin 512) :
    out0_B_6 (F := Ideal) c i arg1 harg1 arg2 harg2 arg3 harg3 arg4 harg4 arg5 harg5 arg6 harg6 arg7 harg7 arg8 harg8 arg9 harg9 arg10 harg10 hc0 x0 x1 x2 x3 x4 x5 xs0 (ix2 r o) = ∑ k : Fin 4096, (xs0 (ix2 r k) : EReal) * wAt x2 x3 x4 x5 k o := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs0), yPieces_B]
  refine yBuf _ (fun r k => xs0 (ix2 r k)) (wAt x2 x3 x4 x5) _ (fun n => rfl) (fun n q o => ?_) r o
  refine (yPay_at _ _ q o).trans (Finset.sum_congr rfl fun k _ => ?_)
  exact congrArg₂ (fun a b : EReal => a * b)
    (load_at arg8 harg8 xs0 _ _ (inbXr (n % 3) (by omega)) (ix2 q k) (ix2 (⟨n % 3 * 512 + q.val, by omega⟩ : Fin 1536) k) (rows_at n q k))
    ((loadCov_at arg9 _ _ _ inb_S4096x512_S4096x512_0_0 (ix2 k o) (ix2 k o) (whole_at k o)).trans
      (wBuf_B c i arg1 harg1 arg2 harg2 arg3 harg3 arg4 harg4 arg5 harg5 arg6 harg6 arg7 harg7 arg8 harg8 arg9 harg9 arg10 harg10 x0 x1 x2 x3 x4 x5 hc0 xs0 k o))

end Cases

end Cert.Pieces
-- ==== Proof.RefValue.lean ====
/- The reference's result, read at an index: the sum over the model dimension of a scaled activation times a
   dequantized weight, each a plain formula of the arguments. -/
module

public import proofs.«01_k».proof.Proof.Words
public import proofs.«01_k».proof.Proof.Gen.ReferenceIdeal.Read

@[expose] public section

set_option maxRecDepth 16384

noncomputable section

namespace Cert.RefValue

open Idealize.ShloMosaic Idealize.ShloMosaic.ValueIdx Cert.ReferenceIdeal Cert.ReferenceIdeal.Read Cert.Words

/-- The scale of group `i` of a block of a row. -/
theorem v37_at (x4 : S14336x16x12.Idx → BitVec 8) (r0 : S14336x16.Idx → EReal) (o : Fin 14336) (b i : Fin 16) :
    val_main_v37 (F := Ideal) x4 r0 (ix3 o b i)
      = r0 (ix2 o b) * (((scInt (x4 (ix3 o b ⟨i.val % 8, by omega⟩)) (x4 (ix3 o b ⟨8 + i.val % 4, by omega⟩)) i.val).toInt : ℝ) : EReal) := by
  simp only [val_main_v37_apply, val_main_v36_apply, val_main_v35_apply, val_main_v34_apply, val_main_v33_apply, val_main_v32_apply, val_main_c_4_apply, val_main_v31_apply, val_main_v30_apply, val_main_v29_apply, val_main_v28_apply, val_main_c_3_apply, val_main_v27_apply, val_main_v26_apply, val_main_v25_apply, val_main_v24_apply, val_main_c_2_apply, val_main_v23_apply, val_main_v22_apply, val_main_v21_apply, val_main_v20_apply, val_main_v19_apply, val_main_v18_apply, val_main_v17_apply, val_main_c_1_apply, val_main_v16_apply, val_main_v15_apply, val_main_v14_apply, val_main_v13_apply, val_main_v12_apply, val_main_c_0_apply, val_main_v11_apply, val_main_v10_apply, val_main_v9_apply, val_main_v8_apply, val_main_v7_apply, val_main_v6_apply, val_main_v5_apply, val_main_c_apply, val_main_v4_apply, val_main_v3_apply, val_main_v2_apply, val_main_v1_apply]
  have hb := b.isLt
  have hi := i.isLt
  have ho := o.isLt
  have i1 : idx_main_v31 (idx_main_v35 (ix3 o b i)) = ix2 o b := funext fun a => Fin.ext (by
    match a with | ⟨0, _⟩ => rfl | ⟨1, _⟩ => rfl)
  have i2 : idx_main_v2 (idx_main_v3 (idx_main_v9 (idx_main_v26 (ix3 o b i)))) = ix3 o b ⟨i.val % 8, by omega⟩ :=
    funext fun a => Fin.ext (by
      match a with
      | ⟨0, _⟩ => show ((o.val * 16 + b.val) * 16 + i.val) / 256 = o.val; omega
      | ⟨1, _⟩ => show ((o.val * 16 + b.val) * 16 + i.val) / 16 % 16 = b.val; omega
      | ⟨2, _⟩ => show ((o.val * 16 + b.val) * 16 + i.val) % 8 = i.val % 8; omega)
  have i3 : idx_main_v14 (idx_main_v15 (idx_main_v21 (idx_main_v27 (ix3 o b i)))) = ix3 o b ⟨8 + i.val % 4, by omega⟩ :=
    funext fun a => Fin.ext (by
      match a with
      | ⟨0, _⟩ => show ((o.val * 16 + b.val) * 16 + i.val) / 256 = o.val; omega
      | ⟨1, _⟩ => show ((o.val * 16 + b.val) * 16 + i.val) / 16 % 16 = b.val; omega
      | ⟨2, _⟩ => show 8 + ((o.val * 16 + b.val) * 16 + i.val) % 4 = 8 + i.val % 4; omega)
  have n1 : (((ix3 o b i 0).val * 16 + (ix3 o b i 1).val) * 16 + (ix3 o b i 2).val) / 8 % 2 = i.val / 8 := by
    show ((o.val * 16 + b.val) * 16 + i.val) / 8 % 2 = i.val / 8; omega
  have n2 : (((ix3 o b i 0).val * 16 + (ix3 o b i 1).val) * 16 + (ix3 o b i 2).val) / 4 % 4 = i.val / 4 := by
    show ((o.val * 16 + b.val) * 16 + i.val) / 4 % 4 = i.val / 4; omega
  rw [i1, i2, i3, n1, n2, muli_ofNat, muli_ofNat, shrsi_const _ _ _ (by omega), shrsi_const _ _ _ (by omega),
    shli_const _ _ _ (by omega)]
  rfl

/-- A quantized value, by block, half, shift and lane. -/
theorem v73_at (x2 : S14336x16x32.Idx → BitVec 8) (x3 : S14336x16x64.Idx → BitVec 8) (o : Fin 14336) (b : Fin 16)
    (h : Fin 2) (j : Fin 4) (p : Fin 32) :
    val_main_v73 (F := Ideal) x2 x3 (ix5 o b h j p)
      = (((qInt (x3 (ix3 o b ⟨32 * h.val + p.val, by omega⟩)) (x2 (ix3 o b p)) h.val j.val).toInt : ℝ) : EReal) := by
  simp only [val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_c_5_apply, val_main_c_6_apply, val_main_c_7_apply, val_main_c_8_apply, val_main_c_9_apply, val_main_c_10_apply]
  have i1 : idx_main_v57 (idx_main_v63 (ix5 o b h j p)) = ix3 o b ⟨32 * h.val + p.val, by omega⟩ :=
    funext fun a => Fin.ext (by
      have := o.isLt; have := b.isLt; have := h.isLt; have := p.isLt
      match a with
      | ⟨0, _⟩ => show ((((o.val * 16 + b.val) * 2 + h.val) * 1 + 0) * 32 + p.val) / 1024 = o.val; omega
      | ⟨1, _⟩ => show ((((o.val * 16 + b.val) * 2 + h.val) * 1 + 0) * 32 + p.val) / 64 % 16 = b.val; omega
      | ⟨2, _⟩ => show ((((o.val * 16 + b.val) * 2 + h.val) * 1 + 0) * 32 + p.val) % 64 = 32 * h.val + p.val; omega)
  have i2 : idx_main_v49 (idx_main_v51 (ix5 o b h j p)) = ix3 o b p := funext fun a => Fin.ext (by
    match a with | ⟨0, _⟩ => rfl | ⟨1, _⟩ => rfl | ⟨2, _⟩ => rfl)
  have m1 : IntOp.muli 2#32 (BitVec.ofNat 32 (ix5 o b h j p 3).val) = BitVec.ofNat 32 (2 * j.val) := muli_ofNat 2 j.val
  have m2 : IntOp.addi (IntOp.muli 4#32 (BitVec.ofNat 32 (ix5 o b h j p 2).val)) (BitVec.ofNat 32 (ix5 o b h j p 3).val)
      = BitVec.ofNat 32 (4 * h.val + j.val) :=
    (congrArg (fun z => IntOp.addi z (BitVec.ofNat 32 j.val)) (muli_ofNat 4 h.val)).trans (addi_ofNat _ _)
  rw [i1, i2, m1, m2]
  rfl

/-- A dequantized weight: row `o`, column `k` of the model dimension, from the rows' bytes and scales. -/
def wVal (x2 : S14336x16x32.Idx → BitVec 8) (x3 : S14336x16x64.Idx → BitVec 8) (x4 : S14336x16x12.Idx → BitVec 8)
    (d : S14336x16.Idx → EReal) (o : Fin 14336) (k : Fin 4096) : EReal :=
  (((qInt (x3 (ix3 o (⟨k.val / 256, by omega⟩ : Fin 16) (⟨32 * (k.val / 128 % 2) + k.val % 32, by omega⟩ : Fin 64)))
      (x2 (ix3 o (⟨k.val / 256, by omega⟩ : Fin 16) (⟨k.val % 32, by omega⟩ : Fin 32)))
      (k.val / 128 % 2) (k.val / 32 % 4)).toInt : ℝ) : EReal)
  * (d (ix2 o (⟨k.val / 256, by omega⟩ : Fin 16))
    * (((scInt (x4 (ix3 o (⟨k.val / 256, by omega⟩ : Fin 16) (⟨k.val / 16 % 16 % 8, by omega⟩ : Fin 12)))
      (x4 (ix3 o (⟨k.val / 256, by omega⟩ : Fin 16) (⟨8 + k.val / 16 % 16 % 4, by omega⟩ : Fin 12)))
      (k.val / 16 % 16)).toInt : ℝ) : EReal))

/-- A scaled activation: row `r` of the batch's rows laid end to end, column `k`. -/
def xVal (x0 : S3x512x4096.Idx → BitVec 8) (x1 : S3x512x16.Idx → EReal) (r : Fin 1536) (k : Fin 4096) : EReal :=
  (((x0 (ix3 (⟨r.val / 512, by omega⟩ : Fin 3) (⟨r.val % 512, by omega⟩ : Fin 512) k)).toInt : ℝ) : EReal)
  * x1 (ix3 (⟨r.val / 512, by omega⟩ : Fin 3) (⟨r.val % 512, by omega⟩ : Fin 512) (⟨k.val / 256, by omega⟩ : Fin 16))

/-- The reference's weight array. -/
theorem v78_at (x2 : S14336x16x32.Idx → BitVec 8) (x3 : S14336x16x64.Idx → BitVec 8) (x4 : S14336x16x12.Idx → BitVec 8)
    (r0 : S14336x16.Idx → EReal) (o : Fin 14336) (k : Fin 4096) :
    val_main_v78 (F := Ideal) x2 x3 x4 r0 (ix2 o k) = wVal x2 x3 x4 r0 o k := by
  have := o.isLt; have := k.isLt
  simp only [val_main_v78_apply, val_main_v77_apply, val_main_v76_apply, val_main_v75_apply, val_main_v74_apply]
  have i1 : idx_main_v74 (idx_main_v78 (ix2 o k)) = ix5 o (⟨k.val / 256, by omega⟩ : Fin 16)
      (⟨k.val / 128 % 2, by omega⟩ : Fin 2) (⟨k.val / 32 % 4, by omega⟩ : Fin 4) (⟨k.val % 32, by omega⟩ : Fin 32) :=
    funext fun a => Fin.ext (by
      match a with
      | ⟨0, _⟩ => show ((((o.val * 4096 + k.val) / 4096 * 16 + (o.val * 4096 + k.val) / 256 % 16) * 16 + (o.val * 4096 + k.val) / 16 % 16) * 16 + (o.val * 4096 + k.val) % 16) / 4096 = o.val; omega
      | ⟨1, _⟩ => show ((((o.val * 4096 + k.val) / 4096 * 16 + (o.val * 4096 + k.val) / 256 % 16) * 16 + (o.val * 4096 + k.val) / 16 % 16) * 16 + (o.val * 4096 + k.val) % 16) / 256 % 16 = k.val / 256; omega
      | ⟨2, _⟩ => show ((((o.val * 4096 + k.val) / 4096 * 16 + (o.val * 4096 + k.val) / 256 % 16) * 16 + (o.val * 4096 + k.val) / 16 % 16) * 16 + (o.val * 4096 + k.val) % 16) / 128 % 2 = k.val / 128 % 2; omega
      | ⟨3, _⟩ => show ((((o.val * 4096 + k.val) / 4096 * 16 + (o.val * 4096 + k.val) / 256 % 16) * 16 + (o.val * 4096 + k.val) / 16 % 16) * 16 + (o.val * 4096 + k.val) % 16) / 32 % 4 = k.val / 32 % 4; omega
      | ⟨4, _⟩ => show ((((o.val * 4096 + k.val) / 4096 * 16 + (o.val * 4096 + k.val) / 256 % 16) * 16 + (o.val * 4096 + k.val) / 16 % 16) * 16 + (o.val * 4096 + k.val) % 16) % 32 = k.val % 32; omega)
  have i2 : idx_main_v75 (idx_main_v76 (idx_main_v78 (ix2 o k))) = ix3 o (⟨k.val / 256, by omega⟩ : Fin 16)
      (⟨k.val / 16 % 16, by omega⟩ : Fin 16) :=
    funext fun a => Fin.ext (by
      match a with
      | ⟨0, _⟩ => show (o.val * 4096 + k.val) / 4096 = o.val; omega
      | ⟨1, _⟩ => show (o.val * 4096 + k.val) / 256 % 16 = k.val / 256; omega
      | ⟨2, _⟩ => show (o.val * 4096 + k.val) / 16 % 16 = k.val / 16 % 16; omega)
  rw [i1, i2, v37_at, v73_at]
  rfl

/-- The reference's activation array. -/
theorem v86_at (x0 : S3x512x4096.Idx → BitVec 8) (x1 : S3x512x16.Idx → EReal) (s : Fin 3) (q : Fin 512) (k : Fin 4096) :
    val_main_v86 (F := Ideal) x0 x1 (ix3 s q k)
      = (((x0 (ix3 s q k)).toInt : ℝ) : EReal) * x1 (ix3 s q (⟨k.val / 256, by omega⟩ : Fin 16)) := by
  have := s.isLt; have := q.isLt; have := k.isLt
  simp only [val_main_v86_apply, val_main_v85_apply, val_main_v84_apply, val_main_v83_apply, val_main_v82_apply,
    val_main_v81_apply, val_main_v80_apply, val_main_v79_apply]
  have i1 : idx_main_v81 (idx_main_v86 (ix3 s q k)) = ix3 s q k :=
    funext fun a => Fin.ext (by
      match a with
      | ⟨0, _⟩ => show ((((((s.val * 512 + q.val) * 4096 + k.val) / 2097152) * 512 + ((s.val * 512 + q.val) * 4096 + k.val) / 4096 % 512) * 16 + ((s.val * 512 + q.val) * 4096 + k.val) / 256 % 16) * 256 + ((s.val * 512 + q.val) * 4096 + k.val) % 256) / 2097152 = s.val; omega
      | ⟨1, _⟩ => show ((((((s.val * 512 + q.val) * 4096 + k.val) / 2097152) * 512 + ((s.val * 512 + q.val) * 4096 + k.val) / 4096 % 512) * 16 + ((s.val * 512 + q.val) * 4096 + k.val) / 256 % 16) * 256 + ((s.val * 512 + q.val) * 4096 + k.val) % 256) / 4096 % 512 = q.val; omega
      | ⟨2, _⟩ => show ((((((s.val * 512 + q.val) * 4096 + k.val) / 2097152) * 512 + ((s.val * 512 + q.val) * 4096 + k.val) / 4096 % 512) * 16 + ((s.val * 512 + q.val) * 4096 + k.val) / 256 % 16) * 256 + ((s.val * 512 + q.val) * 4096 + k.val) % 256) % 4096 = k.val; omega)
  have i2 : idx_main_v83 (idx_main_v84 (idx_main_v86 (ix3 s q k))) = ix3 s q (⟨k.val / 256, by omega⟩ : Fin 16) :=
    funext fun a => Fin.ext (by
      match a with
      | ⟨0, _⟩ => show ((s.val * 512 + q.val) * 4096 + k.val) / 2097152 = s.val; omega
      | ⟨1, _⟩ => show ((s.val * 512 + q.val) * 4096 + k.val) / 4096 % 512 = q.val; omega
      | ⟨2, _⟩ => show ((s.val * 512 + q.val) * 4096 + k.val) / 256 % 16 = k.val / 256; omega)
  rw [i1, i2]
  have e : ∀ v : BitVec 8, (v.signExtend 32).toInt = v.toInt := by decide +kernel
  show (((_ : ℤ) : ℝ) : EReal) * _ = _
  rw [e]
  rfl

/-- The reference's result at row `r` and column `o`. -/
theorem v89_at (x0 : S3x512x4096.Idx → BitVec 8) (x1 : S3x512x16.Idx → EReal) (x2 : S14336x16x32.Idx → BitVec 8)
    (x3 : S14336x16x64.Idx → BitVec 8) (x4 : S14336x16x12.Idx → BitVec 8) (r0 : S14336x16.Idx → EReal)
    (r : Fin 1536) (o : Fin 14336) :
    val_main_v89 (F := Ideal) x0 x1 x2 x3 x4 r0 (ix2 r o) = ∑ k : Fin 4096, xVal x0 x1 r k * wVal x2 x3 x4 r0 o k := by
  have := r.isLt; have := o.isLt
  simp only [val_main_v89_apply, val_main_v88_apply, val_main_v87_apply]
  have i1 : idx_main_v89 (ix2 r o) = ix3 (⟨r.val / 512, by omega⟩ : Fin 3) (⟨r.val % 512, by omega⟩ : Fin 512) o :=
    funext fun a => Fin.ext (by
      match a with
      | ⟨0, _⟩ => show (r.val * 14336 + o.val) / 7340032 = r.val / 512; omega
      | ⟨1, _⟩ => show (r.val * 14336 + o.val) / 14336 % 512 = r.val % 512; omega
      | ⟨2, _⟩ => show (r.val * 14336 + o.val) % 14336 = o.val; omega)
  rw [i1]
  show (∑ k : Fin 4096, _) = _
  refine Finset.sum_congr rfl fun k _ => ?_
  have i2 : lidx_main_v87 (ix3 (⟨r.val / 512, by omega⟩ : Fin 3) (⟨r.val % 512, by omega⟩ : Fin 512) o) k
      = ix3 (⟨r.val / 512, by omega⟩ : Fin 3) (⟨r.val % 512, by omega⟩ : Fin 512) k := funext fun a => Fin.ext (by
    match a with | ⟨0, _⟩ => rfl | ⟨1, _⟩ => rfl | ⟨2, _⟩ => rfl)
  have i3 : ridx_main_v87 (ix3 (⟨r.val / 512, by omega⟩ : Fin 3) (⟨r.val % 512, by omega⟩ : Fin 512) o) k
      = ix2 o k := funext fun a => Fin.ext (by
    match a with | ⟨0, _⟩ => rfl | ⟨1, _⟩ => rfl)
  rw [i2, i3, v86_at, v78_at]
  rfl

end Cert.RefValue
-- ==== Proof.Whole.lean ====
/- What the whole run leaves in the result: every entry as a sum over the model dimension of plain formulas of the arguments. -/
module

public import proofs.«01_k».proof.Proof.Points
public import proofs.«01_k».proof.Proof.RefValue

@[expose] public section

set_option maxRecDepth 16384

noncomputable section

namespace Cert.Whole

open Idealize.ShloMosaic Idealize.ShloMosaic.ValueIdx Idealize.ShloMosaic.TcCoe Idealize.SL.Sem
open Cert.KernelIdeal Cert.KernelIdeal.Gen Cert.Words Cert.Pieces

variable (m : (ℓ : Loc nD τ sig) → Buf (Elt Ideal) ℓ)

/-! ### The arrays the region finds -/

/-- Argument 0, as launched. -/
abbrev A0 (c : Dev nD) : S3x512x4096.Idx → BitVec 8 := m ((c : Thread nD τ).loc main_arg0)

/-- Argument 1, as launched. -/
abbrev A1 (c : Dev nD) : S3x512x16.Idx → EReal := m ((c : Thread nD τ).loc main_arg1)

/-- Argument 2, as launched. -/
abbrev A2 (c : Dev nD) : S14336x16x32.Idx → BitVec 8 := m ((c : Thread nD τ).loc main_arg2)

/-- Argument 3, as launched. -/
abbrev A3 (c : Dev nD) : S14336x16x64.Idx → BitVec 8 := m ((c : Thread nD τ).loc main_arg3)

/-- Argument 4, as launched. -/
abbrev A4 (c : Dev nD) : S14336x16x12.Idx → BitVec 8 := m ((c : Thread nD τ).loc main_arg4)

/-- Argument 5, as launched. -/
abbrev A5 (c : Dev nD) : S14336x16.Idx → BitVec 16 := m ((c : Thread nD τ).loc main_arg5)

/-- The activations, with the batch and the sequence in one axis. -/
theorem V0_at (c : Dev nD) (r : Fin 1536) (k : Fin 4096) :
    (V m c main_v0 : S1536x4096.Idx → BitVec 8) (ix2 r k)
      = A0 m c (ix3 (⟨r.val / 512, by omega⟩ : Fin 3) (⟨r.val % 512, by omega⟩ : Fin 512) k) := by
  have e : (V m c main_v0 : S1536x4096.Idx → BitVec 8) = shapeCast S1536x4096 (A0 m c) shapeCasts_S3x512x4096_S1536x4096 := by
    show StableHlo.after hostOps0 (fun b => m (c, b)) _ = _
    after_results
    rfl
  rw [e]
  refine shapeCast_apply _ _ _ _ ?_
  rw [Shape.rowMajor_val_three, Shape.rowMajor_val_two]
  show (r.val / 512 * 512 + r.val % 512) * 4096 + k.val = r.val * 4096 + k.val
  omega

/-- The activations' scales, the sequence last. -/
theorem V1_at (c : Dev nD) (s : Fin 3) (b : Fin 16) (q : Fin 512) :
    (V m c main_v1 : S3x16x512.Idx → EReal) (ix3 s b q) = A1 m c (ix3 s q b) := by
  have e : (V m c main_v1 : S3x16x512.Idx → EReal) = transpose S3x16x512 [0, 2, 1] (A1 m c) transposes_S3x512x16_S3x16x512_0_2_1 := by
    show StableHlo.after hostOps0 (fun b => m (c, b)) _ = _
    after_results
  rw [e]
  exact transpose_apply _ _ _ _ _ (fun b => by
    match b with
    | ⟨0, _⟩ => rfl
    | ⟨1, _⟩ => rfl
    | ⟨2, _⟩ => rfl)

/-- The high bits, the rows last. -/
theorem V2_at (c : Dev nD) (b : Fin 16) (p : Fin 32) (o : Fin 14336) :
    (V m c main_v2 : S16x32x14336.Idx → BitVec 8) (ix3 b p o) = A2 m c (ix3 o b p) := by
  have e : (V m c main_v2 : S16x32x14336.Idx → BitVec 8) = transpose S16x32x14336 [1, 2, 0] (A2 m c) transposes_S14336x16x32_S16x32x14336_1_2_0 := by
    show StableHlo.after hostOps0 (fun b => m (c, b)) _ = _
    after_results
  rw [e]
  exact transpose_apply _ _ _ _ _ (fun b => by
    match b with
    | ⟨0, _⟩ => rfl
    | ⟨1, _⟩ => rfl
    | ⟨2, _⟩ => rfl)

/-- The low bits, the rows last. -/
theorem V3_at (c : Dev nD) (b : Fin 16) (p : Fin 64) (o : Fin 14336) :
    (V m c main_v3 : S16x64x14336.Idx → BitVec 8) (ix3 b p o) = A3 m c (ix3 o b p) := by
  have e : (V m c main_v3 : S16x64x14336.Idx → BitVec 8) = transpose S16x64x14336 [1, 2, 0] (A3 m c) transposes_S14336x16x64_S16x64x14336_1_2_0 := by
    show StableHlo.after hostOps0 (fun b => m (c, b)) _ = _
    after_results
  rw [e]
  exact transpose_apply _ _ _ _ _ (fun b => by
    match b with
    | ⟨0, _⟩ => rfl
    | ⟨1, _⟩ => rfl
    | ⟨2, _⟩ => rfl)

/-- The packed scales, the rows last. -/
theorem V4_at (c : Dev nD) (i : Fin 12) (b : Fin 16) (o : Fin 14336) :
    (V m c main_v4 : S12x16x14336.Idx → BitVec 8) (ix3 i b o) = A4 m c (ix3 o b i) := by
  have e : (V m c main_v4 : S12x16x14336.Idx → BitVec 8) = transpose S12x16x14336 [2, 1, 0] (A4 m c) transposes_S14336x16x12_S12x16x14336_2_1_0 := by
    show StableHlo.after hostOps0 (fun b => m (c, b)) _ = _
    after_results
  rw [e]
  exact transpose_apply _ _ _ _ _ (fun b => by
    match b with
    | ⟨0, _⟩ => rfl
    | ⟨1, _⟩ => rfl
    | ⟨2, _⟩ => rfl)

/-- The float16 scales' bits, the rows last. -/
theorem V5_at (c : Dev nD) (b : Fin 16) (o : Fin 14336) :
    (V m c main_v5 : S16x14336.Idx → BitVec 16) (ix2 b o) = A5 m c (ix2 o b) := by
  have e : (V m c main_v5 : S16x14336.Idx → BitVec 16) = transpose S16x14336 [1, 0] (A5 m c) transposes_S14336x16_S16x14336_1_0 := by
    show StableHlo.after hostOps0 (fun b => m (c, b)) _ = _
    after_results
  rw [e]
  exact transpose_apply _ _ _ _ _ (fun b => by
    match b with
    | ⟨0, _⟩ => rfl
    | ⟨1, _⟩ => rfl)

/-! ### The blocks a point reads -/

/-- Where a point's block lies, of the activations. -/
theorem idx0 : ∀ t : Fin cfg0.N, win0_0.index t (0 : Fin 2) = 0 ∧ win0_0.index t (1 : Fin 2) = 0 :=
  (by decide +kernel : ∀ t : Fin grid0.N, _)

/-- A point's block of the activations: all of them, at every point. -/
theorem iblk0_at (c : Dev nD) (t : Fin cfg0.N) (x : Fin 1536) (y : Fin 4096) :
    (iblk m c 0 t : S1536x4096.Idx → BitVec 8) (ix2 x y)
      = (V m c main_v0 : S1536x4096.Idx → BitVec 8) (ix2 x y) := by
  obtain ⟨e0, e1⟩ := idx0 t
  show V m c main_v0 (((cfg0.win 0).blk t).view.emb (ix2 x y)) = _
  refine congrArg (V m c main_v0) (funext fun a => Fin.ext ?_)
  match a with
  | ⟨0, _⟩ => show win0_0.index t (0 : Fin 2) * 1536 + 1 * x.val = x.val; rw [e0]; omega
  | ⟨1, _⟩ => show win0_0.index t (1 : Fin 2) * 4096 + 1 * y.val = y.val; rw [e1]; omega

/-- Where a point's block lies, of the activations' scales. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

/-- A point's block of the activations' scales: all of them, at every point. -/
theorem iblk1_at (c : Dev nD) (t : Fin cfg0.N) (x : Fin 3) (y : Fin 16) (z : Fin 512) :
    (iblk m c 1 t : S3x16x512.Idx → EReal) (ix3 x y z)
      = (V m c main_v1 : S3x16x512.Idx → EReal) (ix3 x y z) := by
  obtain ⟨e0, e1, e2⟩ := idx1 t
  show V m c main_v1 (((cfg0.win 1).blk t).view.emb (ix3 x y z)) = _
  refine congrArg (V m c main_v1) (funext fun a => Fin.ext ?_)
  match a with
  | ⟨0, _⟩ => show win0_1.index t (0 : Fin 3) * 3 + 1 * x.val = x.val; rw [e0]; omega
  | ⟨1, _⟩ => show win0_1.index t (1 : Fin 3) * 16 + 1 * y.val = y.val; rw [e1]; omega
  | ⟨2, _⟩ => show win0_1.index t (2 : Fin 3) * 512 + 1 * z.val = z.val; rw [e2]; omega

/-- Where a point's block lies, of the high bits. -/
theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)

/-- A point's block of the high bits: 512 rows. -/
theorem iblk2_at (c : Dev nD) (t : Fin cfg0.N) (x : Fin 16) (y : Fin 32) (z : Fin 512) :
    (iblk m c 2 t : S16x32x512.Idx → BitVec 8) (ix3 x y z)
      = (V m c main_v2 : S16x32x14336.Idx → BitVec 8) (ix3 x y (⟨512 * t.val + z.val, by have := t.isLt; have : cfg0.N = 28 := N_0; have := z.isLt; omega⟩ : Fin 14336)) := by
  obtain ⟨e0, e1, e2⟩ := idx2 t
  show V m c main_v2 (((cfg0.win 2).blk t).view.emb (ix3 x y z)) = _
  refine congrArg (V m c main_v2) (funext fun a => Fin.ext ?_)
  match a with
  | ⟨0, _⟩ => show win0_2.index t (0 : Fin 3) * 16 + 1 * x.val = x.val; rw [e0]; omega
  | ⟨1, _⟩ => show win0_2.index t (1 : Fin 3) * 32 + 1 * y.val = y.val; rw [e1]; omega
  | ⟨2, _⟩ => show win0_2.index t (2 : Fin 3) * 512 + 1 * z.val = 512 * t.val + z.val; rw [e2]; omega

/-- Where a point's block lies, of the low bits. -/
theorem idx3 : ∀ t : Fin cfg0.N, win0_3.index t (0 : Fin 3) = 0 ∧ win0_3.index t (1 : Fin 3) = 0 ∧ win0_3.index t (2 : Fin 3) = t.val :=
  (by decide +kernel : ∀ t : Fin grid0.N, _)

/-- A point's block of the low bits: 512 rows. -/
theorem iblk3_at (c : Dev nD) (t : Fin cfg0.N) (x : Fin 16) (y : Fin 64) (z : Fin 512) :
    (iblk m c 3 t : S16x64x512.Idx → BitVec 8) (ix3 x y z)
      = (V m c main_v3 : S16x64x14336.Idx → BitVec 8) (ix3 x y (⟨512 * t.val + z.val, by have := t.isLt; have : cfg0.N = 28 := N_0; have := z.isLt; omega⟩ : Fin 14336)) := by
  obtain ⟨e0, e1, e2⟩ := idx3 t
  show V m c main_v3 (((cfg0.win 3).blk t).view.emb (ix3 x y z)) = _
  refine congrArg (V m c main_v3) (funext fun a => Fin.ext ?_)
  match a with
  | ⟨0, _⟩ => show win0_3.index t (0 : Fin 3) * 16 + 1 * x.val = x.val; rw [e0]; omega
  | ⟨1, _⟩ => show win0_3.index t (1 : Fin 3) * 64 + 1 * y.val = y.val; rw [e1]; omega
  | ⟨2, _⟩ => show win0_3.index t (2 : Fin 3) * 512 + 1 * z.val = 512 * t.val + z.val; rw [e2]; omega

/-- Where a point's block lies, of the packed scales. -/
theorem idx4 : ∀ t : Fin cfg0.N, win0_4.index t (0 : Fin 3) = 0 ∧ win0_4.index t (1 : Fin 3) = 0 ∧ win0_4.index t (2 : Fin 3) = t.val :=
  (by decide +kernel : ∀ t : Fin grid0.N, _)

/-- A point's block of the packed scales: 512 rows. -/
theorem iblk4_at (c : Dev nD) (t : Fin cfg0.N) (x : Fin 12) (y : Fin 16) (z : Fin 512) :
    (iblk m c 4 t : S12x16x512.Idx → BitVec 8) (ix3 x y z)
      = (V m c main_v4 : S12x16x14336.Idx → BitVec 8) (ix3 x y (⟨512 * t.val + z.val, by have := t.isLt; have : cfg0.N = 28 := N_0; have := z.isLt; omega⟩ : Fin 14336)) := by
  obtain ⟨e0, e1, e2⟩ := idx4 t
  show V m c main_v4 (((cfg0.win 4).blk t).view.emb (ix3 x y z)) = _
  refine congrArg (V m c main_v4) (funext fun a => Fin.ext ?_)
  match a with
  | ⟨0, _⟩ => show win0_4.index t (0 : Fin 3) * 12 + 1 * x.val = x.val; rw [e0]; omega
  | ⟨1, _⟩ => show win0_4.index t (1 : Fin 3) * 16 + 1 * y.val = y.val; rw [e1]; omega
  | ⟨2, _⟩ => show win0_4.index t (2 : Fin 3) * 512 + 1 * z.val = 512 * t.val + z.val; rw [e2]; omega

/-- Where a point's block lies, of the float16 scales' bits. -/
theorem idx5 : ∀ t : Fin cfg0.N, win0_5.index t (0 : Fin 2) = 0 ∧ win0_5.index t (1 : Fin 2) = t.val :=
  (by decide +kernel : ∀ t : Fin grid0.N, _)

/-- A point's block of the float16 scales' bits: 512 rows. -/
theorem iblk5_at (c : Dev nD) (t : Fin cfg0.N) (x : Fin 16) (y : Fin 512) :
    (iblk m c 5 t : S16x512.Idx → BitVec 16) (ix2 x y)
      = (V m c main_v5 : S16x14336.Idx → BitVec 16) (ix2 x (⟨512 * t.val + y.val, by have := t.isLt; have : cfg0.N = 28 := N_0; have := y.isLt; omega⟩ : Fin 14336)) := by
  obtain ⟨e0, e1⟩ := idx5 t
  show V m c main_v5 (((cfg0.win 5).blk t).view.emb (ix2 x y)) = _
  refine congrArg (V m c main_v5) (funext fun a => Fin.ext ?_)
  match a with
  | ⟨0, _⟩ => show win0_5.index t (0 : Fin 2) * 16 + 1 * x.val = x.val; rw [e0]; omega
  | ⟨1, _⟩ => show win0_5.index t (1 : Fin 2) * 512 + 1 * y.val = 512 * t.val + y.val; rw [e1]; omega

/-! ### The result -/

/-- A float16 scale, as the kernel reads it out of its bits. -/
def dVal (c : Dev nD) : S14336x16.Idx → EReal := fun y => decOf ((A5 m c y).setWidth 32)

/-- A scaled activation, at any point. -/
theorem xAt_eq (c : Dev nD) (t : Fin cfg0.N) (r : Fin 1536) (k : Fin 4096) :
    xAt (iblk m c 0 t) (iblk m c 1 t) r k = RefValue.xVal (A0 m c) (A1 m c) r k := by
  unfold xAt RefValue.xVal
  exact congrArg₂ (fun (a : BitVec 8) (b : EReal) => ((a.toInt : ℝ) : EReal) * b)
    ((iblk0_at m c t r k).trans (V0_at m c r k)) ((iblk1_at m c t _ _ _).trans (V1_at m c _ _ _))

/-- A dequantized weight of a point's tile is the whole matrix's, 512 rows per point. -/
theorem wAt_eq (c : Dev nD) (t : Fin cfg0.N) (k : Fin 4096) (o : Fin 512) (ho : 512 * t.val + o.val < 14336) :
    wAt (iblk m c 2 t) (iblk m c 3 t) (iblk m c 4 t) (iblk m c 5 t) k o
      = RefValue.wVal (A2 m c) (A3 m c) (A4 m c) (dVal m c) (⟨512 * t.val + o.val, ho⟩ : Fin 14336) k := by
  unfold wAt gAt RefValue.wVal dVal
  have e2 := fun (b : Fin 16) (p : Fin 32) => (iblk2_at m c t b p o).trans (V2_at m c b p _)
  have e3 := fun (b : Fin 16) (p : Fin 64) => (iblk3_at m c t b p o).trans (V3_at m c b p _)
  have e4 := fun (i : Fin 12) (b : Fin 16) => (iblk4_at m c t i b o).trans (V4_at m c i b _)
  have e5 := fun (b : Fin 16) => (iblk5_at m c t b o).trans (V5_at m c b _)
  rw [e2, e3, e4, e4, e5]

/-- The buffer the kernel carries holds the scaled activations after every point. -/
theorem carried (c : Dev nD) : ∀ (n : ℕ) (hn : n < cfg0.N) (r : Fin 1536) (k : Fin 4096),
    ((outsAt0 m c n hn).2 (ix2 r k) : EReal) = RefValue.xVal (A0 m c) (A1 m c) r k
  | 0, hn, r, k => by
    have h := congrFun (congrArg Prod.snd (outsAt0_A m c ⟨0, hn⟩ (Nat.zero_mod _))) (ix2 r k)
    dsimp only at h
    refine h.trans ?_
    exact (sout_A _ _ _ _ _ _ _ _ _ _ _ _ _ _ _ _ _ _ _ _ _ _ _ _ _ _ _ _ _ r k).trans (xAt_eq m c ⟨0, hn⟩ r k)
  | n + 1, hn, r, k => by
    have hN : cfg0.N = 28 := N_0
    have h := congrFun (congrArg Prod.snd (outsAt0_B m c ⟨n + 1, hn⟩ (by show ¬ (n + 1) % 28 = 0; omega))) (ix2 r k)
    refine h.trans ?_
    exact carried c n (Nat.lt_of_succ_lt hn) r k

/-- The output block of any point. -/
theorem block (c : Dev nD) (t : Fin cfg0.N) (r : Fin 1536) (o : Fin 512) (ho : 512 * t.val + o.val < 14336) :
    ((outsAt0 m c t.val t.isLt).1 (ix2 r o) : EReal)
      = ∑ k : Fin 4096, RefValue.xVal (A0 m c) (A1 m c) r k
          * RefValue.wVal (A2 m c) (A3 m c) (A4 m c) (dVal m c) (⟨512 * t.val + o.val, ho⟩ : Fin 14336) k := by
  by_cases h0 : t.val % 28 = 0
  · have h := congrFun (congrArg Prod.fst (outsAt0_A m c t h0)) (ix2 r o)
    dsimp only at h
    refine h.trans ?_
    refine (out_A _ _ _ _ _ _ _ _ _ _ _ _ _ _ _ _ _ _ _ _ _ _ _ _ _ _ _ _ _ r o).trans (Finset.sum_congr rfl fun k _ => ?_)
    rw [xAt_eq, wAt_eq m c t k o ho]
  · have h := congrFun (congrArg Prod.fst (outsAt0_B m c t h0)) (ix2 r o)
    dsimp only at h
    refine h.trans ?_
    refine (out_B _ _ _ _ _ _ _ _ _ _ _ _ _ _ _ _ _ _ _ _ _ _ _ _ _ _ _ _ _ _ r o).trans (Finset.sum_congr rfl fun k _ => ?_)
    rw [wAt_eq m c t k o ho, carried]

/-- The result, entry by entry. -/
theorem G6_at (c : Dev nD) (r : Fin 1536) (o : Fin 14336) :
    (Value.G6 m c : S1536x14336.Idx → EReal) (ix2 r o)
      = ∑ k : Fin 4096, RefValue.xVal (A0 m c) (A1 m c) r k
          * RefValue.wVal (A2 m c) (A3 m c) (A4 m c) (dVal m c) o k := by
  have hr := r.isLt
  have ho := o.isLt
  have hN : cfg0.N = 28 := N_0
  have hp : Value.pt6Of (ix2 r o) = o.val / 512 := by
    show 28 * (r.val / 1536 - 0) + 1 * (o.val / 512 - 0) = o.val / 512; omega
  have ht : o.val / 512 < cfg0.N := by omega
  have hl : Value.loc6Of (ix2 r o) = ix2 r (⟨o.val % 512, by omega⟩ : Fin 512) := funext fun a => Fin.ext (by
    match a with
    | ⟨0, _⟩ => show r.val % 1536 = r.val; omega
    | ⟨1, _⟩ => rfl)
  unfold Value.G6
  rw [dif_pos (by rw [hp]; exact ht), hl, Value.fold0_congr m c _ _ (o.val / 512) (by omega) hp,
    ← Value.outsAt0_sweep m c (o.val / 512) ht]
  refine (block m c ⟨o.val / 512, ht⟩ r (⟨o.val % 512, by omega⟩ : Fin 512) (by show 512 * (o.val / 512) + o.val % 512 < 14336; omega)).trans ?_
  have e : (⟨512 * (o.val / 512) + o.val % 512, by omega⟩ : Fin 14336) = o := Fin.ext (by show 512 * (o.val / 512) + o.val % 512 = o.val; omega)
  show (∑ k : Fin 4096, RefValue.xVal (A0 m c) (A1 m c) r k
    * RefValue.wVal (A2 m c) (A3 m c) (A4 m c) (dVal m c) (⟨512 * (o.val / 512) + o.val % 512, _⟩ : Fin 14336) k) = _
  rw [e]

end Cert.Whole
-- ==== Proof.Algebra.lean ====
/- The two programs' results, read at the ideal instance, are one array. -/
module

public import proofs.«01_k».proof.Defs
public import proofs.«01_k».proof.Proof.Whole
public import proofs.«01_k».proof.Proof.Gen.ReferenceIdeal.Run
public import proofs.«01_k».proof.Proof.Gen.Pre_no_negative_nan
public import Idealize.ShloMosaic.Lib.Pipeline.ValueKit

@[expose] public section

set_option maxRecDepth 16384

noncomputable section

namespace Cert.Algebra

open Idealize.ShloMosaic Idealize.ShloMosaic.ValueIdx Idealize.ShloMosaic.TcCoe Idealize.SL.Sem

/-! ### The reference's float16 scales -/

section Reference

open Cert.ReferenceIdeal Cert.ReferenceIdeal.Gen

variable (m : (ℓ : Loc nD τ sig) → Buf (Elt Ideal) ℓ)

/-- Reading the scales' bits as float16 and widening them, at an index. -/
theorem k0_pay1_at (x : Vec Ideal S14336x16 .i16) (y : S14336x16.Idx) :
    (k0_pay1 (F := Ideal) x y : EReal) = Ideal.ofBits .f16 (x y) := rfl

/-- The scales' bits are one block, the whole array. -/
theorem read_bits (c : Dev nD) (f : Buf (Elt Ideal) ((c : Thread nD τ).loc main_arg5)) :
    (win0_0.blk t0_0).view.read (Elt Ideal) f = f :=
  Memref.read_access_unit_zero (Elt Ideal) main_arg5
    (show (fun a => (win0_0.index t0_0) a * main_arg5.ty.shape.size a) = fun _ => 0 from
      funext fun a => by fin_cases a <;> decide) (fun a => by fin_cases a <;> decide) f

/-- The scales are one block, the whole array. -/
theorem read_scales (c : Dev nD) (f : Buf (Elt Ideal) ((c : Thread nD τ).loc main_v0)) :
    (win0_1.blk t0_0).view.read (Elt Ideal) f = f :=
  Memref.read_access_unit_zero (Elt Ideal) main_v0
    (show (fun a => (win0_1.index t0_0) a * main_v0.ty.shape.size a) = fun _ => 0 from
      funext fun a => by fin_cases a <;> decide) (fun a => by fin_cases a <;> decide) f

/-- What the region's one point finds: the scales' bits, as launched. -/
theorem iblk_bits (c : Dev nD) : iblk (F := Ideal) m c 0 t0_0 = m ((c : Thread nD τ).loc main_arg5) := by
  show (win0_0.blk t0_0).view.read (Elt Ideal) (m ((c : Thread nD τ).loc main_arg5)) = _
  exact read_bits c _

/-- What the region's one point writes back. -/
theorem flushed_scales (c : Dev nD) : (dats (F := Ideal) m 0 c).flushed 1 t0_0
    = out0_1 (m ((c : Thread nD τ).loc main_arg5)) := by
  show (cfg0.win 1).cut _ ((dats (F := Ideal) m 0 c).after 1 t0_0) = _
  rw [after0_1, iblk_bits]
  exact funext fun _ => rfl

/-- What the region leaves in the scales' array. -/
theorem arrAt_scales (c : Dev nD) : (dats (F := Ideal) m 0 c).arrAt 1 cfg0.N
    = out0_1 (m ((c : Thread nD τ).loc main_arg5)) := by
  have hw : ((cfg0.win 1).blk t0_0).view.read (Elt Ideal) ((dats (F := Ideal) m 0 c).arrAt 1 cfg0.N)
      = (dats (F := Ideal) m 0 c).flushed 1 t0_0 := by
    rw [show cfg0.N = t0_0.val + 1 from N_0, (dats m 0 c).arrAt_succ (1 : Fin 2) t0_0, flush0_1, if_pos rfl]
    exact View.read_write_univ _ _
  rw [flushed_scales] at hw
  exact (read_scales c _).symm.trans hw

/-- The region's store, read back: its payload of the whole array. -/
theorem out0_1_eq (x : Vec Ideal S14336x16 .i16) : out0_1 (F := Ideal) x = k0_pay1 x := by
  unfold out0_1
  have hz : (![0, 0] : Fin S14336x16.rank → Nat) = fun _ => 0 := by funext a; fin_cases a <;> rfl
  rw [View.canon_unit_zero (S := S14336x16) hz]
  exact congrArg k0_pay1 (View.ld_unit_zero (S := S14336x16) hz _ x)

/-- What the reference's gridless region leaves: every scale at the float16 value of its bits. -/
theorem reg_at (c : Dev nD) (y : S14336x16.Idx) :
    (Cert.ReferenceIdeal.Value.reg_main_v0 (F := Ideal) m c : S14336x16.Idx → EReal) y
      = Ideal.ofBits .f16 ((m ((c : Thread nD τ).loc main_arg5) : S14336x16.Idx → BitVec 16) y) := by
  have h : Cert.ReferenceIdeal.Value.reg_main_v0 (F := Ideal) m c = k0_pay1 (F := Ideal) (m ((c : Thread nD τ).loc main_arg5)) :=
    (arrAt_scales m c).trans (out0_1_eq _)
  exact (congrFun h y).trans (k0_pay1_at _ y)

end Reference

/-! ### The precondition -/

/-- The precondition, at an index: the scale's bits are no more than those of the negative infinity. -/
theorem bits_le (x0 : IVec Pre_no_negative_nan.S3x512x4096 8) (x1 : FVec Ideal Pre_no_negative_nan.S3x512x16 .f32)
    (x2 : IVec Pre_no_negative_nan.S14336x16x32 8) (x3 : IVec Pre_no_negative_nan.S14336x16x64 8)
    (x4 : IVec Pre_no_negative_nan.S14336x16x12 8) (x5 : IVec Pre_no_negative_nan.S14336x16 16)
    (h : Cert.Pre_no_negative_nan.fn (F := Ideal) x0 x1 x2 x3 x4 x5 = fun _ => 1#1)
    (y : Pre_no_negative_nan.S14336x16.Idx) : (x5 y).toNat ≤ 64512 := by
  have e : (bif ((x5 y).setWidth 32).sle 64512#32 then 1#1 else 0#1) = 1#1 := congrFun h y
  have hb : ((x5 y).setWidth 32).sle 64512#32 = true := by
    cases hc : ((x5 y).setWidth 32).sle 64512#32
    · rw [hc] at e; exact absurd e (by decide)
    · rfl
  have hl := (x5 y).isLt
  rw [BitVec.sle_eq_decide, decide_eq_true_eq, BitVec.toInt_eq_toNat_of_lt (by rw [BitVec.toNat_setWidth]; omega),
    BitVec.toNat_setWidth] at hb
  have : (64512#32).toInt = 64512 := by decide
  omega

/-! ### The equality -/

/-- From memories that agree on the arguments, the kernel's result array is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : ∀ y : Cert.ReferenceIdeal.S14336x16.Idx, (Whole.A5 m c y).toNat ≤ 64512)
    (h0 : m' ((c.tc : Thread Cert.ReferenceIdeal.nD Cert.ReferenceIdeal.τ).loc Cert.ReferenceIdeal.main_arg0) = Whole.A0 m c)
    (h1 : m' ((c.tc : Thread Cert.ReferenceIdeal.nD Cert.ReferenceIdeal.τ).loc Cert.ReferenceIdeal.main_arg1) = Whole.A1 m c)
    (h2 : m' ((c.tc : Thread Cert.ReferenceIdeal.nD Cert.ReferenceIdeal.τ).loc Cert.ReferenceIdeal.main_arg2) = Whole.A2 m c)
    (h3 : m' ((c.tc : Thread Cert.ReferenceIdeal.nD Cert.ReferenceIdeal.τ).loc Cert.ReferenceIdeal.main_arg3) = Whole.A3 m c)
    (h4 : m' ((c.tc : Thread Cert.ReferenceIdeal.nD Cert.ReferenceIdeal.τ).loc Cert.ReferenceIdeal.main_arg4) = Whole.A4 m c)
    (h5 : m' ((c.tc : Thread Cert.ReferenceIdeal.nD Cert.ReferenceIdeal.τ).loc Cert.ReferenceIdeal.main_arg5) = Whole.A5 m c) :
    shapeCast Cert.ReferenceIdeal.S1536x14336
        (truncf .bf16 (Cert.ReferenceIdeal.Value.res_main_v87 (Cert.ReferenceIdeal.Value.exitV (F := Ideal) m' c))
          Cert.ReferenceIdeal.Facts₀.bitsLt_bf16_f32) Cert.ReferenceIdeal.Facts₀.shapeCasts_S3x512x14336_S1536x14336
      = Cert.KernelIdeal.Value.G6 m c := by
  have hd : (Cert.ReferenceIdeal.Value.reg_main_v0 (F := Ideal) m' c : Cert.ReferenceIdeal.S14336x16.Idx → EReal) = Whole.dVal m c := by
    funext y
    refine (reg_at m' c y).trans ?_
    rw [h5]
    exact (Words.decOf_eq _ (hpre y)).symm
  rw [Cert.ReferenceIdeal.Read.val_main_v89_eq, Cert.ReferenceIdeal.Value.exit_main_arg0,
    Cert.ReferenceIdeal.Value.exit_main_arg1, Cert.ReferenceIdeal.Value.exit_main_arg2,
    Cert.ReferenceIdeal.Value.exit_main_arg3, Cert.ReferenceIdeal.Value.exit_main_arg4,
    Cert.ReferenceIdeal.Value.exit_main_v0, h0, h1, h2, h3, h4]
  funext j
  obtain ⟨r, o, rfl⟩ : ∃ r o, j = ValueIdx.ix2 r o := ⟨j 0, j 1, funext fun a => by fin_cases a <;> rfl⟩
  refine (RefValue.v89_at _ _ _ _ _ _ r o).trans ?_
  refine Eq.trans ?_ (Whole.G6_at m c r o).symm
  exact congrArg (fun d : Cert.ReferenceIdeal.S14336x16.Idx → EReal => ∑ k : Fin 4096, RefValue.xVal (Whole.A0 m c) (Whole.A1 m c) r k
    * RefValue.wVal (Whole.A2 m c) (Whole.A3 m c) (Whole.A4 m c) d o k) hd

/-- The kernel and the reference, read at the ideal instance, leave one result. -/
theorem algebraic : Cert.algebraic_KernelIdeal_ReferenceIdeal_pre_no_negative_nan := by
  intro m g m' g' hpre hag
  refine ⟨fun c => Cert.KernelIdeal.Value.G6 m c, Cert.KernelIdeal.Value.run m g, ?_⟩
  refine (θ_run _ _ _).mono (fun r h c => ⟨(h c).1.trans ?_, (h c).2⟩) (Cert.ReferenceIdeal.Value.run m' g')
  obtain ⟨h0, h1, h2, h3, h4, h5⟩ := hag c
  exact result_eq m m' c (fun y => bits_le _ _ _ _ _ _ (hpre c) y) h0 h1 h2 h3 h4 h5

end Cert.Algebra

end
-- ==== Proof.lean ====
/- The proof of every claim of the certificate: the three frames are the generated ones, `preserves` has no rewrite to justify,
   and the equality of the kernel's and the reference's results is `Cert.Algebra.algebraic`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Read
public import proofs.«01_k».proof.Proof.Gen.Pre_no_negative_nan
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim: the kernel, its ideal program and the reference each run to the end and leave their arguments and counters as
    they were (with and without the precondition); the ideal program is the kernel; kernel and reference leave one result. -/
theorem claim : Cert.Claim :=
  ⟨Cert.Kernel.Gen.facts, Cert.KernelIdeal.Gen.facts, Cert.ReferenceIdeal.Gen.facts, Cert.Pre_no_negative_nan.Gen.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    Cert.Algebra.algebraic⟩

end Cert.Proof

end
